-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S2x512x512 : Shape := ⟨3, ![2, 512, 512]⟩
abbrev S8x512x512 : Shape := ⟨3, ![8, 512, 512]⟩
abbrev S2x512x2048 : Shape := ⟨3, ![2, 512, 2048]⟩
abbrev S8x512x2048 : Shape := ⟨3, ![8, 512, 2048]⟩
abbrev S8 : Shape := ⟨1, ![8]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S2x512x512, .f32⟩
  | .local _ .vmem, ⟨1, _⟩ => ⟨S8x512x512, .fp8e5m2⟩
  | .local _ .vmem, ⟨2, _⟩ => ⟨S8x512x512, .fp8e5m2⟩
  | .local _ .vmem, ⟨3, _⟩ => ⟨S2x512x2048, .f32⟩
  | .local _ .vmem, ⟨4, _⟩ => ⟨S8x512x2048, .fp8e5m2⟩
  | .local _ .vmem, ⟨5, _⟩ => ⟨S512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_28
  let c8_i32_29 : BitVec 32 := 8#32
  let v33 : BitVec 32 := Scalar.remsi v32 c8_i32_29
  let c512_i32 : BitVec 32 := 512#32
  let v46 : BitVec 32 := Scalar.muli v33 c512_i32
  let c0_i32_46 : BitVec 32 := 0#32
  ![v46.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_53 : BitVec 32 := 512#32
  let v58 : BitVec 32 := Scalar.muli v2 c512_i32_53
  let c0_i32_58 : BitVec 32 := 0#32
  ![v58.toNat, 0]
def k0_off3 (d0 : Dev nD) (c1_i32_59 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v64 : BitVec 32 := Scalar.subi v2 c1_i32_59
  let c8_i32_60 : BitVec 32 := 8#32
  let v65 : BitVec 32 := Scalar.addi v64 c8_i32_60
  let c8_i32_61 : BitVec 32 := 8#32
  let v66 : BitVec 32 := Scalar.remsi v65 c8_i32_61
  let c512_i32_62 : BitVec 32 := 512#32
  let v67 : BitVec 32 := Scalar.muli v66 c512_i32_62
  let c0_i32_67 : BitVec 32 := 0#32
  ![v67.toNat, 0]
def k0_off4 (d0 : Dev nD) (c1_i32_28 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_28
  let c8_i32_29 : BitVec 32 := 8#32
  let v33 : BitVec 32 := Scalar.remsi v32 c8_i32_29
  let v82 : Index := Scalar.indexCast v33
  let c0_76 : Index := 0#32
  let c0_77 : Index := 0#32
  ![v82.toNat, 0, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_89 : BitVec 32 := 0#32
  let c0_i32_90 : BitVec 32 := 0#32
  ![v2.toNat, 0, 0]
def k0_off6 (d0 : Dev nD) (c1_i32_28 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_28
  let c8_i32_29 : BitVec 32 := 8#32
  let v33 : BitVec 32 := Scalar.remsi v32 c8_i32_29
  let c0_i32_91 : BitVec 32 := 0#32
  let c0_i32_92 : BitVec 32 := 0#32
  ![v33.toNat, 0, 0]
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v32 : BitVec 32 := Scalar.addi v2 c1_i32_28
  let c8_i32_29 : BitVec 32 := 8#32
  let v33 : BitVec 32 := Scalar.remsi v32 c8_i32_29
  let c1_i32_87 : BitVec 32 := 1#32
  let v92 : BitVec 32 := Scalar.muli v33 c1_i32_87
  let v93 : BitVec 32 := Scalar.addi c0_i32_88 v92
  v93.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_30 : BitVec 32 := 2#32
  let v34 : BitVec 32 := Scalar.addi v2 c2_i32_30
  let c8_i32_31 : BitVec 32 := 8#32
  let v35 : BitVec 32 := Scalar.remsi v34 c8_i32_31
  let c1_i32_111 : BitVec 32 := 1#32
  let v121 : BitVec 32 := Scalar.muli v35 c1_i32_111
  let v122 : BitVec 32 := Scalar.addi c0_i32_112 v121
  v122.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v36 : BitVec 32 := Scalar.addi v2 c3_i32_32
  let c8_i32_33 : BitVec 32 := 8#32
  let v37 : BitVec 32 := Scalar.remsi v36 c8_i32_33
  let c1_i32_136 : BitVec 32 := 1#32
  let v150 : BitVec 32 := Scalar.muli v37 c1_i32_136
  let v151 : BitVec 32 := Scalar.addi c0_i32_137 v150
  v151.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v38 : BitVec 32 := Scalar.addi v2 c4_i32_34
  let c8_i32_35 : BitVec 32 := 8#32
  let v39 : BitVec 32 := Scalar.remsi v38 c8_i32_35
  let c1_i32_161 : BitVec 32 := 1#32
  let v179 : BitVec 32 := Scalar.muli v39 c1_i32_161
  let v180 : BitVec 32 := Scalar.addi c0_i32_162 v179
  v180.toNat
def k0_dev12 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_36 : BitVec 32 := 5#32
  let v40 : BitVec 32 := Scalar.addi v2 c5_i32_36
  let c8_i32_37 : BitVec 32 := 8#32
  let v41 : BitVec 32 := Scalar.remsi v40 c8_i32_37
  let c1_i32_186 : BitVec 32 := 1#32
  let v208 : BitVec 32 := Scalar.muli v41 c1_i32_186
  let v209 : BitVec 32 := Scalar.addi c0_i32_187 v208
  v209.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_203 : BitVec 32 := 512#32
  let v231 : BitVec 32 := Scalar.muli v2 c512_i32_203
  let c0_i32_208 : BitVec 32 := 0#32
  ![v231.toNat, 0]
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_38 : BitVec 32 := 6#32
  let v42 : BitVec 32 := Scalar.addi v2 c6_i32_38
  let c8_i32_39 : BitVec 32 := 8#32
  let v43 : BitVec 32 := Scalar.remsi v42 c8_i32_39
  let c1_i32_211 : BitVec 32 := 1#32
  let v237 : BitVec 32 := Scalar.muli v43 c1_i32_211
  let v238 : BitVec 32 := Scalar.addi c0_i32_212 v237
  v238.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_40 : BitVec 32 := 7#32
  let v44 : BitVec 32 := Scalar.addi v2 c7_i32_40
  let c8_i32_41 : BitVec 32 := 8#32
  let v45 : BitVec 32 := Scalar.remsi v44 c8_i32_41
  let c1_i32_230 : BitVec 32 := 1#32
  let v260 : BitVec 32 := Scalar.muli v45 c1_i32_230
  let v261 : BitVec 32 := Scalar.addi c0_i32_231 v260
  v261.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v279 : Index := Scalar.indexCast v2
  let c0_245 : Index := 0#32
  let c0_246 : Index := 0#32
  ![v279.toNat, 0, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : Index := Scalar.indexCast v2
  let c0_256 : Index := 0#32
  let c0_257 : Index := 0#32
  ![v292.toNat, 0, 0]
def k0_off10 (d0 : Dev nD) (c1_i32_276 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v314 : BitVec 32 := Scalar.subi v2 c1_i32_276
  let c8_i32_277 : BitVec 32 := 8#32
  let v315 : BitVec 32 := Scalar.addi v314 c8_i32_277
  let c8_i32_278 : BitVec 32 := 8#32
  let v316 : BitVec 32 := Scalar.remsi v315 c8_i32_278
  let v320 : Index := Scalar.indexCast v316
  let c0_282 : Index := 0#32
  let c0_283 : Index := 0#32
  ![v320.toNat, 0, 0]
def k0_off11 (d0 : Dev nD) (c1_i32_435 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_435
  let c8_i32_436 : BitVec 32 := 8#32
  let v491 : BitVec 32 := Scalar.addi v490 c8_i32_436
  let c8_i32_437 : BitVec 32 := 8#32
  let v492 : BitVec 32 := Scalar.remsi v491 c8_i32_437
  let c0_i32_443 : BitVec 32 := 0#32
  let c0_i32_444 : BitVec 32 := 0#32
  ![v492.toNat, 0, 0]
def k0_off12 (d0 : Dev nD) (c1_i32_435 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_435
  let c8_i32_436 : BitVec 32 := 8#32
  let v491 : BitVec 32 := Scalar.addi v490 c8_i32_436
  let c8_i32_437 : BitVec 32 := 8#32
  let v492 : BitVec 32 := Scalar.remsi v491 c8_i32_437
  let v501 : Index := Scalar.indexCast v492
  let c0_447 : Index := 0#32
  let c0_448 : Index := 0#32
  ![v501.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Access.lean ====
/-
# Reading, writing and copying one slot of a buffer

A buffer of shape `[n, a, b]` is used slot by slot: slot `p` is the `[a, b]` piece at leading index `p`. The kernel names
a slot in two ways. Its copies name it as a memref of shape `[a, b]`: a slice with the leading axis dropped. Its loads
and stores go through the whole buffer at a rectangle of shape `[1, a, b]`. The lemmas here let a proof hold every
slot the first way only, at contents of shape `[a, b]`, and take a load, a store, a local copy and its wait from that.

Each lemma takes the offsets the program spells and the offsets the proof holds the slot at as two functions with a
proof that they are equal, so a proof may hold slots at plain numbers while the program computes its offsets.
-/
module

public import Idealize.ShloMosaic.Lib.Transfers
public import Idealize.ShloMosaic.Lib.Memref
public import Idealize.ShloMosaic.Lib.Ring
public import Idealize.ShloMosaic.Lib.Tactic

@[expose] public section

noncomputable section

namespace Cert.Slot

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type}

local notation "𝕄" => MT nD τ sig Ix Val Name U Lvl

section Owns

variable (c : Thread nD τ) {sp : Space} {s s' : Shape} {e : EltTy}

/-- Contents of shape `s` laid out over another shape of the same number of elements, in row-major order. -/
def relay {α : Type} (h : s'.numel = s.numel) (X : s.Idx → α) : s'.Idx → α := fun j => X (Shape.reshapeEquiv h j)

/-- Laying contents out over another shape and back changes nothing. -/
theorem relay_relay {α : Type} (h : s'.numel = s.numel) (h' : s.numel = s'.numel) (X : s.Idx → α) :
    relay h' (relay h X) = X := by
  funext j
  unfold relay
  rw [Shape.reshapeEquiv_reshapeEquiv, Shape.reshapeEquiv_self]

/-- Owning a memref with unit axes dropped is owning the memref at the same contents laid out over its shape. -/
theorem owns_squeeze (m : Memref sig c.2.kind sp s e) (h : s.Squeezes s') (q : PosShare TreeShare) (X : s'.Idx → Val e) :
    (owns c (m.squeeze s' h) q X : sProp 𝕄) = owns c m q (relay h.numel_eq.symm X) := by
  unfold owns
  have hr (f : m.view.ty.Contents Val) : ((m.squeeze s' h).view.read Val f = X) = (m.view.read Val f = relay h.numel_eq.symm X) := by
    have h1 : (m.squeeze s' h).view.read Val f = relay h.numel_eq (m.view.read Val f) := rfl
    rw [h1]
    refine propext ⟨fun H => ?_, fun H => ?_⟩
    · rw [← H, relay_relay]
    · rw [H, relay_relay]
  have hs : (m.squeeze s' h).view.set = m.view.set := View.set_reshape _ _
  have e1 (f : m.view.ty.Contents Val) :
      ((m.squeeze s' h).view.loc c ↦[(m.squeeze s' h).view.set]{q} f : sProp 𝕄) = (m.view.loc c ↦[m.view.set]{q} f) := by
    rw [hs]
  have h₁ : (iprop(∃ f, ⌜(m.squeeze s' h).view.read Val f = X⌝ ∗ ((m.squeeze s' h).view.loc c ↦[(m.squeeze s' h).view.set]{q} f)) : sProp 𝕄)
      ⊢ iprop(∃ f, ⌜m.view.read Val f = relay h.numel_eq.symm X⌝ ∗ (m.view.loc c ↦[m.view.set]{q} f)) := by
    iintro ⟨%f, %hf, H⟩
    iexists f
    isplitr; · ipureintro; exact (hr f).mp hf
    rw [← e1 f]; iexact H
  have h₂ : (iprop(∃ f, ⌜m.view.read Val f = relay h.numel_eq.symm X⌝ ∗ (m.view.loc c ↦[m.view.set]{q} f)) : sProp 𝕄)
      ⊢ iprop(∃ f, ⌜(m.squeeze s' h).view.read Val f = X⌝ ∗ ((m.squeeze s' h).view.loc c ↦[(m.squeeze s' h).view.set]{q} f)) := by
    iintro ⟨%f, %hf, H⟩
    iexists f
    isplitr; · ipureintro; exact (hr f).mpr hf
    rw [e1 f]; iexact H
  exact BI.equiv_iff.mp ⟨h₁, h₂⟩

/-- What a memref's elements hold after it is rewritten whole: the contents written. -/
theorem owns_write (m : Memref sig c.2.kind sp s e) (f : m.view.ty.Contents Val) (w : s.Idx → Val e) :
    (m.view.loc c ↦[m.view.set]{fullShare} (m.view.write Val f w Finset.univ) : sProp 𝕄) ⊢ owns c m fullShare w := by
  have h := owns_intro (Ix := Ix) (Name := Name) (U := U) (Lvl := Lvl) c m fullShare (m.view.write Val f w Finset.univ)
  rwa [View.read_write_univ] at h

end Owns

section Rules

variable [Preorder Lvl] {Λ : Labels} {defs : Defs nD τ sig Val Λ} (𝒱 : Variants) (c : Thread nD τ) (bd : Option 𝒱.V)
variable {α : Type} {Q : α → sProp (MT nD τ sig Ix Val Name U Lvl)} {s : Shape} {e : EltTy}

/-- A load of a slot through its buffer gives the slot's contents, laid out over the loaded shape. -/
theorem load_slot {cs : CoreSpace} {m : Memref sig c.2.kind cs s e} {off off' size : Fin s.rank → Nat} (hoff : off = off')
    {p : ∀ i, off i + size i ≤ s.size i} {p' : ∀ i, off' i + size i ≤ s.size i} {t : Shape}
    {hs : ∀ a, (Rect.unit off' size p').stride a = 1} {hq : (Rect.unit off' size p').shape.Squeezes t}
    {hl : m.view.LoadsAt (Rect.unit off size p)}
    {k : ((Rect.unit off size p).shape.Idx → Val e) → Prog (TpuEff nD τ sig Val Λ c.2) α} {q : PosShare TreeShare} {X : t.Idx → Val e} :
    ⊢ iprop(owns c ((m.slice (Rect.unit off' size p') hs).squeeze t hq) q X
      -∗ (owns c ((m.slice (Rect.unit off' size p') hs).squeeze t hq) q X
          -∗ wp frame (wpE defs 𝒱 c bd) Set.univ (k (relay hq.numel_eq.symm X)) Q)
      -∗ wp frame (wpE defs 𝒱 c bd) Set.univ (.op (.load m (Rect.unit off size p) hl) k) Q) := by
  subst hoff
  rw [owns_squeeze]
  generalize relay hq.numel_eq.symm X = Y
  iintro H Hk
  ihave H' := (show owns c (m.slice (Rect.unit off size p') hs) q Y
      ⊢ iprop(∃ f, ⌜(m.slice (Rect.unit off size p') hs).view.read Val f = Y⌝
          ∗ ((m.slice (Rect.unit off size p') hs).view.loc c ↦[(m.slice (Rect.unit off size p') hs).view.set]{q} f)) from .rfl) $$ H
  icases H' with ⟨%f, %hf, H⟩
  iapply (wp_load_rect 𝒱 c bd Set.univ (m := m) (r := Rect.unit off size p) (S := (m.access (Rect.unit off size p)).set) (f := f) subset_rfl) $$ H
  iintro H
  rw [show (m.access (Rect.unit off size p)).read Val f = Y from hf]
  iapply Hk
  iapply (show iprop(∃ f, ⌜(m.slice (Rect.unit off size p') hs).view.read Val f = Y⌝
          ∗ ((m.slice (Rect.unit off size p') hs).view.loc c ↦[(m.slice (Rect.unit off size p') hs).view.set]{q} f))
      ⊢ owns c (m.slice (Rect.unit off size p') hs) q Y from .rfl)
  iexists f
  isplitr; · ipureintro; exact hf
  iexact H

/-- A store over a whole slot through its buffer leaves the slot at the stored contents, laid out over the slot's shape. -/
theorem store_slot {cs : CoreSpace} {m : Memref sig c.2.kind cs s e} {off off' size : Fin s.rank → Nat} (hoff : off = off')
    {p : ∀ i, off i + size i ≤ s.size i} {p' : ∀ i, off' i + size i ≤ s.size i} {t : Shape}
    {hs : ∀ a, (Rect.unit off' size p').stride a = 1} {hq : (Rect.unit off' size p').shape.Squeezes t}
    {w : (Rect.unit off size p).shape.Idx → Val e} {hx : (m.access (Rect.unit off size p)).Stores Finset.univ}
    {hm : (Finset.univ : Finset (Rect.unit off size p).shape.Idx) = Finset.univ ∨ ∀ a, (Rect.unit off size p).stride a = 1}
    {k : PUnit → Prog (TpuEff nD τ sig Val Λ c.2) α} {X : t.Idx → Val e} :
    ⊢ iprop(owns c ((m.slice (Rect.unit off' size p') hs).squeeze t hq) fullShare X
      -∗ (owns c ((m.slice (Rect.unit off' size p') hs).squeeze t hq) fullShare (relay hq.numel_eq w)
          -∗ wp frame (wpE defs 𝒱 c bd) Set.univ (k ⟨⟩) Q)
      -∗ wp frame (wpE defs 𝒱 c bd) Set.univ (.op (.store m (Rect.unit off size p) w Finset.univ hx hm) k) Q) := by
  subst hoff
  rw [owns_squeeze, owns_squeeze, relay_relay]
  generalize relay hq.numel_eq.symm X = Y
  iintro H Hk
  ihave H' := (show owns c (m.slice (Rect.unit off size p') hs) fullShare Y
      ⊢ iprop(∃ f, ⌜(m.slice (Rect.unit off size p') hs).view.read Val f = Y⌝
          ∗ ((m.slice (Rect.unit off size p') hs).view.loc c ↦[(m.slice (Rect.unit off size p') hs).view.set]{fullShare} f)) from .rfl) $$ H
  icases H' with ⟨%f, %hf, H⟩
  iapply (wp_store 𝒱 c bd Set.univ (m := m) (r := Rect.unit off size p) (w := w) (Mk := Finset.univ)
    (S := (m.access (Rect.unit off size p)).set) (f := f) subset_rfl) $$ H
  iintro H
  iapply Hk
  iapply (owns_write c (m.slice (Rect.unit off size p') hs) f w)
  iexact H

variable (EC : UEmb Counters (MT nD τ sig Ix Val Name U Lvl))

/-- The start of a local copy: from the source, the destination at any contents and the copy's semaphore at zero, the
    copy is in flight, to deliver the destination holding the source's contents, and the source back. -/
theorem copy_start [Infinite Name] [EC.LandsIn (upEmb : UEmb _ 𝕄)] {sp sp' : Space}
    {src₀ src : Memref sig c.2.kind sp s e} {dst₀ dst : Memref sig c.2.kind sp' s e} {sm sm₀ : SemLoc sig}
    (hsrc₀ : src₀ = src) (hdst₀ : dst₀ = dst) (hsm : sm₀ = sm)
    {hsrc : src₀.view.WordExact} {hdst : dst₀.view.WordExact} {hsem : DmaTarget.Typed (nD := nD) sp sm₀ (.here dst₀)}
    {k : PUnit → Prog (TpuEff nD τ sig Val Λ c.2) α} {q : PosShare TreeShare} {X Y : s.Idx → Val e}
    (ι : Ix) (N : ℕ) (hN : dst.view.amount sm = N) (hN0 : 0 < N) :
    ⊢ iprop(owns c src q X -∗ owns c dst fullShare Y -∗ semVal (c, sm) 0
        -∗ (Transfers.Flight EC c sm ι N iprop(owns c dst fullShare X ∗ owns c src q X) -∗ wp frame (wpE defs 𝒱 c bd) Set.univ (k ⟨⟩) Q)
        -∗ wp frame (wpE defs 𝒱 c bd) Set.univ (.op (.enqueueDma src₀ (.here dst₀) sm₀ hsrc hdst hsem) k) Q) := by
  subst hsrc₀ hdst₀ hsm
  iintro Hs Hd Hv Hk
  ihave Hs' := (show owns c src₀ q X ⊢ iprop(∃ f, ⌜src₀.view.read Val f = X⌝ ∗ (src₀.view.loc c ↦[src₀.view.set]{q} f)) from .rfl) $$ Hs
  icases Hs' with ⟨%f, %hf, Hs⟩
  ihave Hd' := (show owns c dst₀ fullShare Y ⊢ iprop(∃ f, ⌜dst₀.view.read Val f = Y⌝ ∗ (dst₀.view.loc c ↦[dst₀.view.set]{fullShare} f)) from .rfl) $$ Hd
  icases Hd' with ⟨%g, %hg, Hd⟩
  iapply (Transfers.wp_dmaLocal EC 𝒱 c bd (src := src₀) (dst := dst₀) (sm := sm₀) (fs := f) (fd := g) (q := q) ι N hN hN0 (Sd := dst₀.view.set) subset_rfl) $$ [Hs Hd Hv]
  · isplitl [Hs]; · iexact Hs
    isplitl [Hd]; · iexact Hd
    iexact Hv
  iintro Hf
  iapply Hk
  iapply (Transfers.Flight_mono EC c (sep_mono (owns_write c dst₀ g X) (by
    have h := owns_intro (Ix := Ix) (Name := Name) (U := U) (Lvl := Lvl) c src₀ q f
    rwa [hf] at h)))
  rw [← hf]
  iexact Hf

/-- The wait for a local copy in flight, by a core that owes `O`: what the copy delivers, and its semaphore back at
    zero. -/
theorem copy_wait [EC.LandsIn (upEmb : UEmb _ 𝕄)] {sp sp' : Space} {s' : Shape} {e' : EltTy} {sem₀ sem : DmaSem sig} (hsem : sem₀ = sem)
    {srcw : Memref sig c.2.kind sp' s' e'} {κ' : Kind} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} :
    ⊢ iprop(Transfers.Flight EC c (.dma sem) ι N D -∗ (∃ W, owes c O W) -∗ MayWait c (.dma sem) ι O
      -∗ (D -∗ semVal (c, .dma sem) 0 -∗ (∃ W, owes c O W) -∗ wp frame (wpE defs 𝒱 c bd) Set.univ (k ⟨⟩) Q)
      -∗ wp frame (wpE defs 𝒱 c bd) Set.univ (.op (.waitDma2 sem₀ srcw dstw hsrc hdst) k) Q) := by
  subst hsem
  iintro Hf ⟨%W, HO⟩ Hm Hk
  iapply (Transfers.wp_waitLocalO EC 𝒱 c bd ι hN) $$ [Hf HO Hm]
  · isplitl [Hf]; · iexact Hf
    isplitl [HO]; · iexact HO
    iexact Hm
  iintro ⟨HD, Hv, HO⟩
  iapply Hk $$ HD Hv
  iexists _
  iexact HO

end Rules

end Cert.Slot

end
-- ==== Proof.Sched.lean ====
/-
# The devices' handshake: slots, cells, the schedule of hand-overs

Eight devices exchange blocks of `x`. Device `c` sends to the device `r + 1` places after it, `up r c`, the block of rows
that device multiplies by, for `r = 0 … 6`; it receives from the device `r + 1` places before it, `dn r c`.

Before any transfer each device signals the barrier semaphore of the seven others: the signal from `c` to `up r c` hands
over the slot of `c`'s receive buffer that `up r c` is going to write. A transfer, when it lands, hands the receiver that
slot filled and hands the sender back the slot it sent. This module states those hand-overs as one round of the rounds
library: a barrier cell has seven duties of one unit, one per shift; a send or a receive cell has one duty of a block's
credit. It also states what each device owes at the start and in what order it pays, and the levels of the cells, by which
a device may wait on its own copies while it owes.
-/
module

public import proofs.«01_k».proof.Proof.Gen.KernelIdeal.Skeleton
public import proofs.«01_k».proof.Proof.Gen.KernelIdeal.Launch
public import proofs.«01_k».proof.Proof.Gen.KernelIdeal.Frame
public import proofs.«01_k».proof.Proof.Access
public import Idealize.ShloMosaic.Lib.Pipeline.Launch
public import Idealize.ShloMosaic.Lib.Pipeline.Kit

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the windows' rounds, the handshake's rounds, the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the handshake's rounds live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the local copies' counters live. -/
abbrev EC : UEmb Counters (MT nD τ sig Unit (Elt F) ℕ UU ℕ) := countersEmb

variable (m : (ℓ : Loc nD τ sig) → Buf (Elt F) ℓ) (ρ : Dev nD → PrngReg)

/-! ## The ring -/

set_option backward.proofsInPublic true in
/-- The device `r + 1` places after `c`. -/
def up (r : Fin 7) (c : Dev nD) : Dev nD := ⟨(c.val + r.val + 1) % 8, Nat.mod_lt _ (by decide)⟩
set_option backward.proofsInPublic true in
/-- The device `r + 1` places before `c`. -/
def dn (r : Fin 7) (c : Dev nD) : Dev nD := ⟨(c.val + 7 - r.val) % 8, Nat.mod_lt _ (by decide)⟩
/-- The shift that leads back: `r + 1` places forward and `opp r + 1` forward make a whole turn. -/
def opp (r : Fin 7) : Fin 7 := r.rev

theorem dn_up (r : Fin 7) (c : Dev nD) : dn r (up r c) = c := by revert r c; decide
theorem up_dn (r : Fin 7) (c : Dev nD) : up r (dn r c) = c := by revert r c; decide
theorem dn_opp (r : Fin 7) (c : Dev nD) : dn (opp r) c = up r c := by revert r c; decide

/-- Going `r + 1` places forward permutes the devices. -/
def turn (r : Fin 7) : Dev nD ≃ Dev nD := ⟨up r, dn r, dn_up r, up_dn r⟩

/-! ## Buffers and slots -/

abbrev xM : Memref sig .tc .hbm S4096x512 .f32 := Memref.whole main_arg0
abbrev wM : Memref sig .tc .hbm S4096x2048 .f32 := Memref.whole main_arg1
abbrev oM : Memref sig .tc .hbm S512x2048 .f32 := Memref.whole main_v1
abbrev xfM : Memref sig .tc .vmem S2x512x512 .f32 := Memref.whole cc0_scratch0
abbrev xqM : Memref sig .tc .vmem S8x512x512 .fp8e5m2 := Memref.whole cc0_scratch1
abbrev bufM : Memref sig .tc .vmem S8x512x512 .fp8e5m2 := Memref.whole cc0_scratch2
abbrev wfM : Memref sig .tc .vmem S2x512x2048 .f32 := Memref.whole cc0_scratch3
abbrev wqM : Memref sig .tc .vmem S8x512x2048 .fp8e5m2 := Memref.whole cc0_scratch4
abbrev voM : Memref sig .tc .vmem S512x2048 .f32 := Memref.whole cc0_scratch5

theorem inb8 (p : Dev nD) : ∀ a, (![p.val, 0, 0] : Fin 3 → Nat) a + S1x512x512.size a ≤ S8x512x512.size a := by revert p; decide
theorem inb8w (p : Dev nD) : ∀ a, (![p.val, 0, 0] : Fin 3 → Nat) a + S1x512x2048.size a ≤ S8x512x2048.size a := by revert p; decide
theorem inb2 (i : Fin 2) : ∀ a, (![i.val, 0, 0] : Fin 3 → Nat) a + S1x512x512.size a ≤ S2x512x512.size a := by revert i; decide
theorem inb2w (i : Fin 2) : ∀ a, (![i.val, 0, 0] : Fin 3 → Nat) a + S1x512x2048.size a ≤ S2x512x2048.size a := by revert i; decide
theorem inbx (p : Dev nD) : ∀ a, (![512 * p.val, 0] : Fin 2 → Nat) a + S512x512.size a ≤ S4096x512.size a := by revert p; decide
theorem inbw (p : Dev nD) : ∀ a, (![512 * p.val, 0] : Fin 2 → Nat) a + S512x2048.size a ≤ S4096x2048.size a := by revert p; decide

/-- Slot `p` of the quantised-`x` buffer: what goes to device `p`. -/
abbrev xqS (p : Dev nD) : Memref sig .tc .vmem S512x512 .fp8e5m2 :=
  (xqM.slice (Rect.unit (s := S8x512x512) ![p.val, 0, 0] S1x512x512.size (inb8 p)) (fun _ => rfl)).squeeze S512x512 squeezes_S1x512x512_S512x512
/-- Slot `p` of the receive buffer: what comes from device `p`. -/
abbrev bufS (p : Dev nD) : Memref sig .tc .vmem S512x512 .fp8e5m2 :=
  (bufM.slice (Rect.unit (s := S8x512x512) ![p.val, 0, 0] S1x512x512.size (inb8 p)) (fun _ => rfl)).squeeze S512x512 squeezes_S1x512x512_S512x512
/-- Slot `p` of the quantised-`w` buffer: the rows that multiply device `p`'s block. -/
abbrev wqS (p : Dev nD) : Memref sig .tc .vmem S512x2048 .fp8e5m2 :=
  (wqM.slice (Rect.unit (s := S8x512x2048) ![p.val, 0, 0] S1x512x2048.size (inb8w p)) (fun _ => rfl)).squeeze S512x2048 squeezes_S1x512x2048_S512x2048
/-- The two staging slots of `x`. -/
abbrev xfS (i : Fin 2) : Memref sig .tc .vmem S512x512 .f32 :=
  (xfM.slice (Rect.unit (s := S2x512x512) ![i.val, 0, 0] S1x512x512.size (inb2 i)) (fun _ => rfl)).squeeze S512x512 squeezes_S1x512x512_S512x512
/-- The two staging slots of `w`. -/
abbrev wfS (i : Fin 2) : Memref sig .tc .vmem S512x2048 .f32 :=
  (wfM.slice (Rect.unit (s := S2x512x2048) ![i.val, 0, 0] S1x512x2048.size (inb2w i)) (fun _ => rfl)).squeeze S512x2048 squeezes_S1x512x2048_S512x2048
/-- Rows `512 p … 512 p + 511` of `x`. -/
abbrev xS (p : Dev nD) : Memref sig .tc .hbm S512x512 .f32 :=
  xM.slice (Rect.unit (s := S4096x512) ![512 * p.val, 0] S512x512.size (inbx p)) (fun _ => rfl)
/-- Rows `512 p … 512 p + 511` of `w`. -/
abbrev wS (p : Dev nD) : Memref sig .tc .hbm S512x2048 .f32 :=
  wM.slice (Rect.unit (s := S4096x2048) ![512 * p.val, 0] S512x2048.size (inbw p)) (fun _ => rfl)

/-! ## Contents -/

/-- Rows `512 p …` of device `d`'s columns of `x`, as they stand in memory at the start. -/
def xblk (d p : Dev nD) : S512x512.Idx → Elt F .f32 := (xS p).view.read (Elt F) (m ((d : Thread nD τ).loc main_arg0))
/-- Rows `512 p …` of device `d`'s `w`, as they stand in memory at the start. -/
def wblk (d p : Dev nD) : S512x2048.Idx → Elt F .f32 := (wS p).view.read (Elt F) (m ((d : Thread nD τ).loc main_arg1))
/-- A block of `x` in the narrow float type. -/
def qx (v : FVec F S512x512 .f32) : FVec F S512x512 .fp8e5m2 := truncf .fp8e5m2 v bitsLt_fp8e5m2_f32
/-- A block of `w` in the narrow float type. -/
def qw (v : FVec F S512x2048 .f32) : FVec F S512x2048 .fp8e5m2 := truncf .fp8e5m2 v bitsLt_fp8e5m2_f32

/-! ## Cells -/

abbrev barS : Sem sig := (SemArray.scalar (sig.barrier 0 rfl) : Sems sig S_).sem

set_option backward.proofsInPublic true in
/-- The semaphore the transfer with shift `r` raises on its sender. -/
def sendS (r : Fin 7) : DmaSem sig := ⟨3 + r.val, lt_of_lt_of_le (Nat.add_lt_add_left r.isLt 3) (by decide)⟩
set_option backward.proofsInPublic true in
/-- The semaphore the transfer with shift `r` raises on its receiver. -/
def recvS (r : Fin 7) : DmaSem sig := ⟨11 + r.val, lt_of_lt_of_le (Nat.add_lt_add_left r.isLt 11) (by decide)⟩

/-- The kinds of handshake cell: the barrier, and for each shift the sender's and the receiver's. -/
abbrev CI : Type := Option (Bool × Fin 7)

/-- The semaphore of each kind of cell. -/
def csem : CI → SemLoc sig
  | none => .reg barS
  | some (false, r) => .dma (sendS r)
  | some (true, r) => .dma (recvS r)

set_option backward.proofsInPublic true in
/-- Which kind of handshake cell a semaphore is, if any. -/
def kind : SemLoc sig → Option CI
  | .reg s => if s = barS then some none else none
  | .dma k =>
    if h : 3 ≤ k.val ∧ k.val < 10 then some (some (false, ⟨k.val - 3, by omega⟩))
    else if h : 11 ≤ k.val ∧ k.val < 18 then some (some (true, ⟨k.val - 11, by omega⟩))
    else none

theorem kind_csem (k : CI) : kind (csem k) = some k := by revert k; decide
theorem csem_injective : Function.Injective csem := fun a b h =>
  Option.some.inj ((kind_csem a).symm.trans ((congrArg kind h).trans (kind_csem b)))

abbrev kcell (ck : Dev nD × CI) : GSem nD τ sig := ((ck.1 : Thread nD τ), csem ck.2)
abbrev barCell (c : Dev nD) : GSem nD τ sig := ((c : Thread nD τ), .reg barS)
abbrev sendCell (c : Dev nD) (r : Fin 7) : GSem nD τ sig := ((c : Thread nD τ), .dma (sendS r))
abbrev recvCell (c : Dev nD) (r : Fin 7) : GSem nD τ sig := ((c : Thread nD τ), .dma (recvS r))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one transferred block. -/
abbrev N : ℕ := (bufS 0).view.dmaCredit
theorem N_pos : 0 < N := View.dmaCredit_pos _ (by decide)

/-! ## The schedule -/

/-- What the `r`-th signal to `c` hands it: slot `c` of the receive buffer of the device that signals. -/
def barPay (c : Dev nD) (r : Fin 7) : sProp 𝕄 := iprop(∃ v, owns (dn r c : Thread nD τ) (bufS c) fullShare v)
/-- What the landing of the transfer with shift `r` hands its receiver: the slot, filled with the sender's block. -/
def recvPay (c : Dev nD) (r : Fin 7) : sProp 𝕄 := owns (c : Thread nD τ) (bufS (dn r c)) fullShare (qx (xblk m (dn r c) c))
/-- What it hands back to its sender: the slot sent. -/
def sendPay (c : Dev nD) (r : Fin 7) : sProp 𝕄 := owns (c : Thread nD τ) (xqS (up r c)) fullShare (qx (xblk m c (up r c)))

instance owns_storable (c : Thread nD τ) {sp : Space} {s : Shape} {e : EltTy} (r : Memref sig c.2.kind sp s e) (q) (X) :
    BI.Storable (upEmb : UEmb _ 𝕄) (owns c r q X : sProp 𝕄) := by unfold owns; infer_instance

/-- The duties of each kind of cell. -/
def dutiesOf : Option CI → Finset (Fin 7)
  | none => ∅
  | some none => Finset.univ
  | some (some _) => {0}
/-- The units of each kind of cell. -/
def amountOf : Option CI → ℕ
  | some (some _) => N
  | _ => 1
/-- The hand-overs of each kind of cell. -/
def payOf (c : Dev nD) : Option CI → Fin 7 → sProp 𝕄
  | none, _ => iprop(emp)
  | some none, r => barPay c r
  | some (some (false, r)), _ => sendPay m c r
  | some (some (true, r)), _ => recvPay m c r

/-- The one round of the handshake. -/
def Rd : Rounds.Schedule (GSem nD τ sig) (Fin 7) 𝕄 where
  duties g r := if r = 0 ∧ g.1.2 = .tc then dutiesOf (kind g.2) else ∅
  unitless _ := False
  amount g _ _ := amountOf (kind g.2)
  payload g _ d := payOf m g.1.1 (kind g.2) d
  amount_pos g _ _ _ := by
    rcases kind g.2 with _ | _ | _
    · exact Nat.one_pos
    · exact Nat.one_pos
    · exact N_pos

instance Rd_storable (g : GSem nD τ sig) (r : ℕ) (d : Fin 7) :
    BI.Storable (upEmb : UEmb _ 𝕄) ((Rd (F := F) m).payload g r d) := by
  show BI.Storable upEmb (payOf m g.1.1 (kind g.2) d)
  rcases kind g.2 with _ | _ | ⟨_ | _, r⟩ <;> unfold payOf <;> dsimp only
  · infer_instance
  · unfold barPay; infer_instance
  · unfold sendPay; infer_instance
  · unfold recvPay; infer_instance

theorem duties_cell (c : Dev nD) (k : CI) : (Rd (F := F) m).duties (kcell (c, k)) 0 = dutiesOf (some k) := by
  dsimp only [Rd]; rw [if_pos ⟨rfl, rfl⟩, kind_csem]
theorem duties_later (g : GSem nD τ sig) : ∀ r, 0 + 1 ≤ r → (Rd (F := F) m).duties g r = ∅ :=
  fun r hr => by dsimp only [Rd]; rw [if_neg fun h => by omega]
theorem amount_cell (c : Dev nD) (k : CI) (d : Fin 7) : (Rd (F := F) m).amount (kcell (c, k)) 0 d = amountOf (some k) := by
  dsimp only [Rd]; rw [kind_csem]
theorem payload_cell (c : Dev nD) (k : CI) (d : Fin 7) : (Rd (F := F) m).payload (kcell (c, k)) 0 d = payOf m c (some k) d := by
  dsimp only [Rd]; rw [kind_csem]

theorem expect_bar (c : Dev nD) : (Rd (F := F) m).expect (barCell c) 0 = 7 := by
  show (Rd (F := F) m).expect (kcell (c, none)) 0 = 7
  unfold Schedule.expect Schedule.amountOf
  rw [duties_cell m c none, Finset.sum_congr rfl fun d _ => amount_cell m c none d]
  decide
theorem expect_some (c : Dev nD) (k : Bool × Fin 7) : (Rd (F := F) m).expect (kcell (c, some k)) 0 = N := by
  unfold Schedule.expect Schedule.amountOf
  rw [duties_cell m c (some k)]
  show Finset.sum {(0 : Fin 7)} _ = N
  rw [Finset.sum_singleton, amount_cell]; rfl

theorem rest_bar (c : Dev nD) :
    bigSep ((Rd (F := F) m).duties (barCell c) 0 \ ∅) (fun d => (Rd (F := F) m).payload (barCell c) 0 d) = bigSep Finset.univ (barPay (F := F) c) := by
  rw [Finset.sdiff_empty, show (Rd (F := F) m).duties (barCell c) 0 = _ from duties_cell m c none]
  exact bigSep_congr fun d _ => payload_cell m c none d
theorem rest_some (c : Dev nD) (k : Bool × Fin 7) :
    bigSep ((Rd (F := F) m).duties (kcell (c, some k)) 0 \ ∅) (fun d => (Rd (F := F) m).payload (kcell (c, some k)) 0 d) = payOf m c (some (some k)) 0 := by
  rw [Finset.sdiff_empty, duties_cell m c (some k)]
  show bigSep {(0 : Fin 7)} _ = _
  rw [bigSep_singleton, payload_cell]

theorem rest_send (c : Dev nD) (r : Fin 7) :
    bigSep ((Rd (F := F) m).duties (sendCell c r) 0 \ ∅) (fun d => (Rd (F := F) m).payload (sendCell c r) 0 d) = sendPay m c r := rest_some m c (false, r)
theorem rest_recv (c : Dev nD) (r : Fin 7) :
    bigSep ((Rd (F := F) m).duties (recvCell c r) 0 \ ∅) (fun d => (Rd (F := F) m).payload (recvCell c r) 0 d) = recvPay m c r := rest_some m c (true, r)

/-! ## What each device owes, and the levels -/

/-- The receive credits device `c` owes from shift `n` on. -/
def oR (c : Dev nD) (n : ℕ) : CellTallies nD τ sig Unit :=
  ∑ r : Fin 7, if n ≤ r.val then tallyAt (recvCell (up r c) r) () N else 0
/-- All of them, and the barrier units device `c` owes from shift `n` on. -/
def oB (c : Dev nD) (n : ℕ) : CellTallies nD τ sig Unit :=
  oR c 0 + ∑ r : Fin 7, if n ≤ r.val then tallyAt (barCell (up r c)) () 1 else 0

/-- A sum over the shifts from `r` on is the sum from `r + 1` on and the term of `r`. -/
theorem sum_from {A : Type} [AddCommMonoid A] (f : Fin 7 → A) (r : Fin 7) :
    (∑ s : Fin 7, if r.val ≤ s.val then f s else 0) = (∑ s : Fin 7, if r.val + 1 ≤ s.val then f s else 0) + f r := by
  have h : f r = ∑ s : Fin 7, if s = r then f s else 0 := by rw [Finset.sum_ite_eq' Finset.univ r f, if_pos (Finset.mem_univ _)]
  conv_rhs => rw [h]
  rw [← Finset.sum_add_distrib]
  refine Finset.sum_congr rfl fun s _ => ?_
  rcases lt_trichotomy r.val s.val with h | h | h
  · rw [if_pos h.le, if_pos (show r.val + 1 ≤ s.val from h), if_neg (fun e => by rw [e] at h; exact lt_irrefl _ h), add_zero]
  · rw [if_pos h.le, if_neg (by omega), if_pos (Fin.ext h.symm), zero_add]
  · rw [if_neg (by omega), if_neg (by omega), if_neg (fun e => by rw [e] at h; exact lt_irrefl _ h), add_zero]

theorem oR_succ (c : Dev nD) (r : Fin 7) : oR c r.val = oR c (r.val + 1) + tallyAt (recvCell (up r c) r) () N := sum_from _ r
theorem oR_end (c : Dev nD) : oR c 7 = 0 := Finset.sum_eq_zero fun r _ => if_neg (by have := r.isLt; omega)
theorem oB_succ (c : Dev nD) (r : Fin 7) : oB c r.val = oB c (r.val + 1) + tallyAt (barCell (up r c)) () 1 := by
  unfold oB; rw [sum_from _ r, add_assoc]
theorem oB_end (c : Dev nD) : oB c 7 = oR c 0 := by
  unfold oB; rw [Finset.sum_eq_zero fun r _ => if_neg (by have := r.isLt; omega), add_zero]

/-- The levels: barrier cells at 1, receive cells at 2, everything else at 0. -/
def lvOf : Option CI → ℕ
  | some none => 1
  | some (some (true, _)) => 2
  | _ => 0
def L (g : GSem nD τ sig) : Finset Unit := if g.1.2 = .tc then {()} else ∅
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

theorem sum_pos {f : Fin 7 → CellTallies nD τ sig Unit} {n : ℕ} {g : GSem nD τ sig} {u : Unit}
    (h : 0 < (∑ r : Fin 7, if n ≤ r.val then f r else 0) g u) : ∃ r, 0 < f r g u := by
  rw [Finset.sum_apply, Finsupp.finset_sum_apply] at h
  obtain ⟨r, _, hr⟩ := Finset.exists_ne_zero_of_sum_ne_zero (Nat.pos_iff_ne_zero.mp h)
  refine ⟨r, Nat.pos_of_ne_zero fun h0 => hr ?_⟩
  split
  · exact h0
  · rfl
theorem tally_pos {g g' : GSem nD τ sig} {u : Unit} {k : ℕ} (h : 0 < (tallyAt g' () k : CellTallies nD τ sig Unit) g u) : g = g' := by
  rw [tallyAt_apply] at h
  by_contra hn
  rw [if_neg (fun h' => hn h'.1)] at h
  exact Nat.lt_irrefl 0 h

/-- What a device owes of receive credit lies at receive cells; -/
theorem oR_pos {c : Dev nD} {n : ℕ} {g : GSem nD τ sig} {u : Unit} (h : 0 < oR c n g u) : ∃ d r, g = recvCell d r := by
  obtain ⟨r, hr⟩ := sum_pos h
  exact ⟨_, r, tally_pos hr⟩
/-- what it owes in all, at receive and barrier cells. -/
theorem oB_pos {c : Dev nD} {n : ℕ} {g : GSem nD τ sig} {u : Unit} (h : 0 < oB c n g u) : (∃ d r, g = recvCell d r) ∨ ∃ d, g = barCell d := by
  unfold oB at h
  rw [Pi.add_apply, Finsupp.add_apply] at h
  rcases Nat.eq_zero_or_pos (oR c 0 g u) with h0 | h0
  · rw [h0, Nat.zero_add] at h
    obtain ⟨r, hr⟩ := sum_pos h
    exact .inr ⟨_, tally_pos hr⟩
  · exact .inl (oR_pos h0)

theorem lv_recv (d : Dev nD) (r : Fin 7) : lv (recvCell d r) () = 2 := by
  show lvOf (kind (csem (some (true, r)))) = 2; rw [kind_csem]; rfl
theorem lv_bar (d : Dev nD) : lv (barCell d) () = 1 := by
  show lvOf (kind (csem none)) = 1; rw [kind_csem]; rfl

/-- A device that owes `O` may wait on a cell of level `n` when all it owes lies on higher levels. -/
theorem mayWait_cut (c : Dev nD) (sm : SemLoc sig) (n : ℕ) (hn : lvOf (kind sm) ≤ n) (O : CellTallies nD τ sig Unit)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A device may wait on a cell of level 0 — its own copies, its windows, its send cells — whatever of the handshake it still owes; -/
theorem mayWait_own (c : Dev nD) (sm : SemLoc sig) (hn : lvOf (kind sm) = 0) (n : ℕ) : (levAts L lv : sProp 𝕄) ⊢ MayWait (c : Thread nD τ) sm () (oB c n) :=
  mayWait_cut c sm 0 hn.le _ fun g u hg => by
    rcases oB_pos hg with ⟨d, r, rfl⟩ | ⟨d, rfl⟩
    · exact ⟨rfl, by rw [lv_recv]; decide⟩
    · exact ⟨rfl, by rw [lv_bar]; decide⟩
/-- the same of the receive credits alone; -/
theorem mayWait_ownR (c : Dev nD) (sm : SemLoc sig) (hn : lvOf (kind sm) = 0) (n : ℕ) : (levAts L lv : sProp 𝕄) ⊢ MayWait (c : Thread nD τ) sm () (oR c n) :=
  mayWait_cut c sm 0 hn.le _ fun g u hg => by
    obtain ⟨d, r, rfl⟩ := oR_pos hg
    exact ⟨rfl, by rw [lv_recv]; decide⟩
/-- and on its barrier cell once it owes receive credits only. -/
theorem mayWait_bar (c : Dev nD) : (levAts L lv : sProp 𝕄) ⊢ MayWait (c : Thread nD τ) (.reg barS) () (oR c 0) :=
  mayWait_cut c _ 1 (lv_bar c).le _ fun g u hg => by
    obtain ⟨d, r, rfl⟩ := oR_pos hg
    exact ⟨rfl, by rw [lv_recv]; decide⟩

/-! ## What every device knows -/

/-- The invariants of all the handshake's cells, under the names `K`; that all are in their first round; the levels. -/
def know (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance know_persistent (K : Dev nD × CI → ℕ) : BI.Persistent (know (F := F) m K) := by unfold know; infer_instance

theorem know_inv (K : Dev nD × CI → ℕ) (ck : Dev nD × CI) : know (F := F) m K ⊢ cellInv ER (Rd m) (K ck) (kcell ck) := by
  unfold know
  exact sep_elim_left.trans (bigSep_elim (Φ := fun ck : Dev nD × CI => (cellInv ER (Rd m) (K ck) (kcell ck) : sProp 𝕄)) (Finset.mem_univ ck))
theorem know_reached (K : Dev nD × CI → ℕ) (ck : Dev nD × CI) : know (F := F) m K ⊢ reached ER (kcell ck) 0 := by
  unfold know
  exact sep_elim_right.trans (sep_elim_left.trans
    (bigSep_elim (Φ := fun ck : Dev nD × CI => (reached ER (kcell ck) 0 : sProp 𝕄)) (Finset.mem_univ ck)))
theorem know_lev (K : Dev nD × CI → ℕ) : know (F := F) m K ⊢ levAts L lv := by
  unfold know
  exact sep_elim_right.trans sep_elim_right

end Cert.Mesh

end
-- ==== Proof.Steps.lean ====
/-
# One step of the kernel at a time

For each kind of operation of the kernel's body — a signal, the barrier wait, a transfer, the waits for it on either side,
the copies from memory into the staging slots and back, the loads and the stores of slots — what it takes and what it
leaves, on a device `c`, for any shift, any slot and any continuation. The body's proof applies these, once per operation.
-/
module

public import proofs.«01_k».proof.Proof.Sched

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A memref owned at some contents. -/
def junk (c : Dev nD) {sp : Space} {s : Shape} {e : EltTy} (r : Memref sig .tc sp s e) : sProp 𝕄 :=
  iprop(∃ v, owns (c : Thread nD τ) r fullShare v)
/-- A device that owes `O`. -/
def debt (c : Dev nD) (O : CellTallies nD τ sig Unit) : sProp 𝕄 := iprop(∃ W, owes (c : Thread nD τ) O W)
/-- A semaphore of the device at zero. -/
abbrev zero (c : Dev nD) (sm : SemLoc sig) : sProp 𝕄 := semVal ((c : Thread nD τ), sm) 0

/-- What the signal with shift `r` takes: the right to it, and the slot it hands over. -/
def sigR (c : Dev nD) (r : Fin 7) : sProp 𝕄 := iprop(dutyTok ER (barCell (up r c)) 0 r ∗ junk c (bufS (up r c)))
/-- What the barrier wait takes: the place at the cell, and the credit. -/
def barR (c : Dev nD) : sProp 𝕄 := iprop(atPos ER (barCell c) 0 ∅ 0 ∗ cred (tallyAt (barCell c) () 7))
/-- What the transfer with shift `r` takes, besides its source and destination. -/
def sendR (c : Dev nD) (r : Fin 7) : sProp 𝕄 :=
  iprop(dutyTok ER (sendCell c r) 0 0 ∗ dutyTok ER (recvCell (up r c) r) 0 0 ∗ atPos ER (sendCell c r) 0 ∅ 0)
/-- What the wait for its departure takes. -/
def backR (c : Dev nD) (r : Fin 7) : sProp 𝕄 := iprop(cred (tallyAt (sendCell c r) () N) ∗ atPos ER (sendCell c r) 0 ∅ 0)
/-- What the wait for the arrival with shift `r` takes. -/
def recvR (c : Dev nD) (r : Fin 7) : sProp 𝕄 := iprop(cred (tallyAt (recvCell c r) () N) ∗ atPos ER (recvCell c r) 0 ∅ 0)

section Steps

variable (K : Dev nD × CI → ℕ) (c : Dev nD) {α : Type} {Q : α → sProp (MT nD τ sig Unit (Elt F) ℕ UU ℕ)}
variable {k : PUnit → Prog (TpuEff nD τ sig (Elt F) Λ₀ .tc) α}

/-! ## The handshake -/

/-- The signal with shift `r`. -/
theorem signal_step (r : Fin 7) {dev : Dev nD} (hdev : dev = up r c) {n a b : ℕ} (hn : n = 1) (ha : r.val = a) (hb : r.val + 1 = b) :
    ⊢ iprop(know m K -∗ debt c (oB c a) -∗ sigR c r -∗ (debt c (oB c b) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (dev : Thread nD τ) barS n) k) Q) := by
  subst hdev hn ha hb
  unfold debt sigR junk
  rw [oB_succ]
  iintro #HK ⟨%W, HO⟩ ⟨Ht, ⟨%v, Hb⟩⟩ Hk
  ihave #HI := (know_inv m K (up r c, none)) $$ HK
  ihave #HR := (know_reached m K (up r c, none)) $$ HK
  iapply (Rounds.wp_signal 𝒱₀ ER (Rd m) (c : Thread nD τ) none (dst := (up r c : Thread nD τ)) (κ := K (up r c, none)) (d := r)
    (by rw [show (Rd (F := F) m).duties (barCell (up r c)) 0 = _ from duties_cell m (up r c) none]; exact Finset.mem_univ _)
    (amount_cell m (up r c) none r) () (oB c (r.val + 1)) rfl) $$ [HO Ht Hb]
  · isplitr; · iexact HI
    isplitl [HO]; · iexact HO
    isplitl [Ht]; · iexact Ht
    isplitl [Hb]
    · rw [show (Rd (F := F) m).payload (barCell (up r c)) 0 r = barPay (up r c) r from payload_cell m (up r c) none r]
      unfold barPay
      rw [dn_up]
      iexists v; iexact Hb
    · iexact HR
  iintro HO
  iapply Hk
  iexists W; iexact HO

/-- The slots handed to `c`, one by the device at each shift after it. -/
theorem slots_in : bigSep Finset.univ (barPay (F := F) c) ⊢ bigSep Finset.univ (fun r : Fin 7 => junk (up r c) (bufS c)) := by
  rw [bigSep_univ_equiv (Fin.revPerm : Fin 7 ≃ Fin 7)]
  refine bigSep_mono fun r _ => ?_
  show barPay c (opp r) ⊢ junk (up r c) (bufS c)
  unfold barPay junk
  rw [dn_opp]

/-- The wait for all seven signals. -/
theorem bar_step {n : ℕ} (hn : n = 7) :
    ⊢ iprop(know m K -∗ debt c (oR c 0) -∗ barR c
      -∗ (debt c (oR c 0) -∗ zero c (.reg barS) -∗ bigSep Finset.univ (fun r : Fin 7 => junk (up r c) (bufS c))
        -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS n) k) Q) := by
  subst hn
  unfold debt barR
  iintro #HK ⟨%W, HO⟩ ⟨Ha, Hc⟩ Hk
  ihave #HI := (know_inv m K (c, none)) $$ HK
  iapply (Rounds.wp_wait_rest_token 𝒱₀ ER (Rd m) (c : Thread nD τ) none (κ := K (c, none))
      (wpE_semWait_eq 𝒱₀ (c : Thread nD τ) none Set.univ) (Set.mem_univ _) () (O := oR c 0) (W := W) (R := 0) (m := 0) (T := ∅)
      (by rw [expect_bar])) $$ [Hc HO Ha]
  · isplitr; · iexact HI
    isplitl [Hc]; · iexact Hc
    isplitl [HO]; · iexact HO
    isplitr; · iapply (mayWait_bar c); iapply (know_lev m K); iexact HK
    iexact Ha
  iintro ⟨HO, Ha, -, Hp⟩
  ihave Hp := (Entails.of_eq (rest_bar m c)) $$ Hp
  ihave Hp := (slots_in c) $$ Hp
  imod (Rounds.cell_close ER (Rd m) (Set.mem_univ (K (c, none))) (fun h => h) (R := 0 + 1) (duties_later m (barCell c))) $$ [Ha] with Hz
  · isplitr; · iexact HI
    iexact Ha
  iapply Hk $$ [HO] Hz Hp
  iexists _; iexact HO

/-- The transfer with shift `r`: slot `up r c` of the sender's blocks into slot `c` of the receiver's buffer. -/
theorem send_step (r : Fin 7) {dev : Dev nD} (hdev : dev = up r c) {offs offd : Fin 3 → Nat} (hoffs : offs = ![(up r c).val, 0, 0]) (hoffd : offd = ![c.val, 0, 0])
    {hins : ∀ a, offs a + S1x512x512.size a ≤ S8x512x512.size a} {hind : ∀ a, offd a + S1x512x512.size a ≤ S8x512x512.size a}
    {sS sR : DmaSem sig} (hsS : sS = sendS r) (hsR : sR = recvS r) {a b : ℕ} (ha : r.val = a) (hb : r.val + 1 = b)
    {v : S512x512.Idx → Elt F .fp8e5m2} (hv : v = qx (xblk m c (up r c)))
    {hst : ∀ a, (Rect.unit (s := S8x512x512) offs S1x512x512.size hins).stride a = 1} {hst' : ∀ a, (Rect.unit (s := S8x512x512) offd S1x512x512.size hind).stride a = 1}
    {hsq hsq' : S1x512x512.Squeezes S512x512}
    {hsc : ((bufM.slice (Rect.unit (s := S8x512x512) offd S1x512x512.size hind) hst').squeeze S512x512 hsq').view.ref.isScScratch = false}
    {hsrc : ((xqM.slice (Rect.unit (s := S8x512x512) offs S1x512x512.size hins) hst).squeeze S512x512 hsq).view.WordExact}
    {hdst : ((bufM.slice (Rect.unit (s := S8x512x512) offd S1x512x512.size hind) hst').squeeze S512x512 hsq').view.WordExact}
    {hsem : DmaTarget.Typed .vmem (.dma sR) (.remote (Dev.tc dev : Thread nD τ) ((bufM.slice (Rect.unit (s := S8x512x512) offd S1x512x512.size hind) hst').squeeze S512x512 hsq') (.dma sS) hsc)} :
    ⊢ iprop(know m K -∗ debt c (oR c a) -∗ sendR c r -∗ owns (c : Thread nD τ) (xqS (up r c)) fullShare v -∗ junk (up r c) (bufS c)
      -∗ (debt c (oR c b) -∗ backR c r -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma ((xqM.slice (Rect.unit (s := S8x512x512) offs S1x512x512.size hins) hst).squeeze S512x512 hsq)
          (.remote (Dev.tc dev : Thread nD τ) ((bufM.slice (Rect.unit (s := S8x512x512) offd S1x512x512.size hind) hst').squeeze S512x512 hsq') (.dma sS) hsc)
          (.dma sR) hsrc hdst hsem) k) Q) := by
  subst hdev hoffs hoffd hsS hsR ha hb hv
  unfold debt sendR junk backR
  rw [oR_succ]
  iintro #HK ⟨%W, HO⟩ ⟨Ht₁, Ht₂, Ha⟩ Hs ⟨%w, Hd⟩ Hk
  ihave #HI₁ := (know_inv m K (c, some (false, r))) $$ HK
  ihave #HR₁ := (know_reached m K (c, some (false, r))) $$ HK
  ihave #HI₂ := (know_inv m K (up r c, some (true, r))) $$ HK
  ihave #HR₂ := (know_reached m K (up r c, some (true, r))) $$ HK
  ihave Hs := (show owns (c : Thread nD τ) (xqS (up r c)) fullShare (qx (xblk m c (up r c)))
      ⊢ iprop(∃ f, ⌜(xqS (up r c)).view.read (Elt F) f = qx (xblk m c (up r c))⌝ ∗ ((xqS (up r c)).view.loc (c : Thread nD τ) ↦[(xqS (up r c)).view.set]{fullShare} f) : sProp 𝕄) from .rfl) $$ Hs
  icases Hs with ⟨%f, %hf, Hs⟩
  ihave Hd := (show owns (up r c : Thread nD τ) (bufS c) fullShare w
      ⊢ iprop(∃ f, ⌜(bufS c).view.read (Elt F) f = w⌝ ∗ ((bufS c).view.loc (up r c : Thread nD τ) ↦[(bufS c).view.set]{fullShare} f) : sProp 𝕄) from .rfl) $$ Hd
  icases Hd with ⟨%g, %hg, Hd⟩
  iapply (Rounds.wp_send_pointsTo 𝒱₀ ER (Rd m) (c : Thread nD τ) none (κ₁ := K (c, some (false, r))) (κ₂ := K (up r c, some (true, r)))
    (r₁ := 0) (r₂ := 0) (d₁ := 0) (d₂ := 0) (c' := (up r c : Thread nD τ)) (sS := .dma (sendS r)) (sem := .dma (recvS r)) (src := xqS (up r c)) (dst := bufS c) (fs := f) (fd := g) (q := fullShare) (W := W)
    (by rw [show (Rd (F := F) m).duties (sendCell c r) 0 = _ from duties_cell m c (some (false, r))]; exact Finset.mem_singleton_self _)
    (by rw [show (Rd (F := F) m).duties (recvCell (up r c) r) 0 = _ from duties_cell m (up r c) (some (true, r))]; exact Finset.mem_singleton_self _)
    () () N rfl (amount_cell m c (some (false, r)) 0) (amount_cell m (up r c) (some (true, r)) 0) (oR c (r.val + 1)) rfl
    (by
      rw [show (Rd (F := F) m).payload (sendCell c r) 0 0 = sendPay m c r from payload_cell m c (some (false, r)) 0]
      unfold sendPay
      have h := owns_intro (Ix := Unit) (Name := ℕ) (U := UU) (Lvl := ℕ) (c : Thread nD τ) (xqS (up r c)) fullShare f
      rwa [hf] at h)
    (by
      rw [show (Rd (F := F) m).payload (recvCell (up r c) r) 0 0 = recvPay m (up r c) r from payload_cell m (up r c) (some (true, r)) 0, hf]
      unfold recvPay
      rw [dn_up]
      exact owns_write (up r c : Thread nD τ) (bufS c) g _)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk $$ [HO] [Hc Ha]
  · iexists W; iexact HO
  · isplitl [Hc] <;> iassumption

/-- The wait for the arrival with shift `r`, every transfer started: the sender's block, and the cell at zero. -/
theorem recv_step (r : Fin 7) {sem : DmaSem sig} (hsem : sem = recvS r) {sp sp' : Space} {s' : Shape} {e' : EltTy}
    {srcw : Memref sig .tc sp' s' e'} {dstw : Memref sig .tc sp S512x512 .fp8e5m2} {hsrc : srcw.view.WordExact} {hdst : dstw.view.WordExact} :
    ⊢ iprop(know m K -∗ debt c (oR c 7) -∗ recvR c r
      -∗ (debt c (oR c 7) -∗ zero c (.dma (recvS r)) -∗ owns (c : Thread nD τ) (bufS (dn r c)) fullShare (qx (xblk m (dn r c) c))
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  subst hsem
  have hN : dstw.view.dmaCredit = N := rfl
  unfold debt recvR
  iintro #HK ⟨%W, HO⟩ ⟨Hc, Ha⟩ Hk
  ihave #HI := (know_inv m K (c, some (true, r))) $$ HK
  iapply (Rounds.wp_wait_rest_token 𝒱₀ ER (Rd m) (c : Thread nD τ) none (κ := K (c, some (true, r)))
      (wpE_waitDma2_eq 𝒱₀ (c : Thread nD τ) none Set.univ) (Set.mem_univ _) () (O := oR c 7) (W := W) (R := 0) (m := 0) (T := ∅)
      (by rw [Nat.zero_add, hN]; exact (expect_some m c (true, r)).symm)) $$ [Hc HO Ha]
  · isplitr; · iexact HI
    isplitl [Hc]; · rw [hN]; iexact Hc
    isplitl [HO]; · iexact HO
    isplitr; · rw [oR_end, MayWait_zero]; iempintro
    iexact Ha
  iintro ⟨HO, Ha, -, Hp⟩
  ihave Hp := (Entails.of_eq (rest_recv m c r)) $$ Hp
  imod (Rounds.cell_close ER (Rd m) (Set.mem_univ (K (c, some (true, r)))) (fun h => h) (R := 0 + 1) (duties_later m (recvCell c r))) $$ [Ha] with Hz
  · isplitr; · iexact HI
    iexact Ha
  iapply Hk $$ [HO] Hz [Hp]
  · iexists _; iexact HO
  · unfold recvPay; iexact Hp

/-- The wait for the departure with shift `r`: the slot sent, and the cell at zero. -/
theorem back_step (r : Fin 7) {sem : DmaSem sig} (hsem : sem = sendS r) {sp sp' : Space} {s' : Shape} {e' : EltTy}
    {srcw : Memref sig .tc sp' s' e'} {dstw : Memref sig .tc sp S512x512 .fp8e5m2} {hsrc : srcw.view.WordExact} {hdst : dstw.view.WordExact} :
    ⊢ iprop(know m K -∗ debt c (oR c 7) -∗ backR c r
      -∗ (debt c (oR c 7) -∗ zero c (.dma (sendS r)) -∗ junk c (xqS (up r c))
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  subst hsem
  have hN : dstw.view.dmaCredit = N := rfl
  unfold debt backR
  iintro #HK ⟨%W, HO⟩ ⟨Hc, Ha⟩ Hk
  ihave #HI := (know_inv m K (c, some (false, r))) $$ HK
  iapply (Rounds.wp_wait_rest_token 𝒱₀ ER (Rd m) (c : Thread nD τ) none (κ := K (c, some (false, r)))
      (wpE_waitDma2_eq 𝒱₀ (c : Thread nD τ) none Set.univ) (Set.mem_univ _) () (O := oR c 7) (W := W) (R := 0) (m := 0) (T := ∅)
      (by rw [Nat.zero_add, hN]; exact (expect_some m c (false, r)).symm)) $$ [Hc HO Ha]
  · isplitr; · iexact HI
    isplitl [Hc]; · rw [hN]; iexact Hc
    isplitl [HO]; · iexact HO
    isplitr; · rw [oR_end, MayWait_zero]; iempintro
    iexact Ha
  iintro ⟨HO, Ha, -, Hp⟩
  ihave Hp := (Entails.of_eq (rest_send m c r)) $$ Hp
  imod (Rounds.cell_close ER (Rd m) (Set.mem_univ (K (c, some (false, r)))) (fun h => h) (R := 0 + 1) (duties_later m (sendCell c r))) $$ [Ha] with Hz
  · isplitr; · iexact HI
    iexact Ha
  iapply Hk $$ [HO] Hz [Hp]
  · iexists _; iexact HO
  · unfold junk sendPay; iexists (qx (xblk m c (up r c))); iexact Hp

end Steps

end Cert.Mesh

end
-- ==== Proof.Local.lean ====
/-
# A device's own copies, loads and stores, one at a time

The kernel brings blocks of `x` and of `w` from memory into two staging slots each, reads a staged block, writes it in the
narrow float type into a slot of its buffer, and at the end writes the result out. Here is what each of these operations
takes and leaves on a device `c`, for any slot and any continuation.
-/
module

public import proofs.«01_k».proof.Proof.Steps

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a slot holds -/

/-- Contents of shape `512 × 512` as a load through the whole buffer gives them, with a leading axis of one. -/
def boxX {e : EltTy} (X : S512x512.Idx → Elt F e) : S1x512x512.Idx → Elt F e := relay squeezes_S1x512x512_S512x512.numel_eq.symm X
/-- The same of shape `512 × 2048`. -/
def boxW {e : EltTy} (X : S512x2048.Idx → Elt F e) : S1x512x2048.Idx → Elt F e := relay squeezes_S1x512x2048_S512x2048.numel_eq.symm X

/-- Dropping the leading axis of a loaded block gives the slot's contents. -/
theorem cast_boxX {e : EltTy} (X : S512x512.Idx → Elt F e) (h) : shapeCast S512x512 (boxX X : Vec F S1x512x512 e) h = X :=
  relay_relay _ _ X
theorem cast_boxW {e : EltTy} (X : S512x2048.Idx → Elt F e) (h) : shapeCast S512x2048 (boxW X : Vec F S1x512x2048 e) h = X :=
  relay_relay _ _ X

/-- What the kernel stores from a loaded block of `x` is, over the slot, the block in the narrow type. -/
theorem stored_x (X : S512x512.Idx → Elt F .f32) (h : S512x512.numel = S1x512x512.numel) : relay h (k0_pay1 (boxX X : Vec F S1x512x512 .f32)) = qx X := by
  have h1 : k0_pay1 (boxX X : Vec F S1x512x512 .f32) = relay h.symm (qx (shapeCast S512x512 (boxX X : Vec F S1x512x512 .f32) shapeCasts_S1x512x512_S512x512)) := rfl
  rw [h1, relay_relay, cast_boxX]
/-- The same of a block of `w`. -/
theorem stored_w (X : S512x2048.Idx → Elt F .f32) (h : S512x2048.numel = S1x512x2048.numel) : relay h (k0_pay13 (boxW X : Vec F S1x512x2048 .f32)) = qw X := by
  have h1 : k0_pay13 (boxW X : Vec F S1x512x2048 .f32) = relay h.symm (qw (shapeCast S512x2048 (boxW X : Vec F S1x512x2048 .f32) shapeCasts_S1x512x2048_S512x2048)) := rfl
  rw [h1, relay_relay, cast_boxW]

/-! ## Holdings -/

/-- Staging slot `i` of `x` holding rows block `p`; -/
abbrev xfV (c : Dev nD) (i : Fin 2) (p : Dev nD) : sProp 𝕄 := owns (c : Thread nD τ) (xfS i) fullShare (xblk m c p)
/-- staging slot `i` of `w` holding rows block `p`; -/
abbrev wfV (c : Dev nD) (i : Fin 2) (p : Dev nD) : sProp 𝕄 := owns (c : Thread nD τ) (wfS i) fullShare (wblk m c p)
/-- rows block `p` of `x` in memory; -/
abbrev xRow (c p : Dev nD) : sProp 𝕄 := owns (c : Thread nD τ) (xS p) fullShare (xblk m c p)
/-- rows block `p` of `w` in memory; -/
abbrev wRow (c p : Dev nD) : sProp 𝕄 := owns (c : Thread nD τ) (wS p) fullShare (wblk m c p)
/-- slot `p` of the quantised `x` filled; -/
abbrev xqV (c p : Dev nD) : sProp 𝕄 := owns (c : Thread nD τ) (xqS p) fullShare (qx (xblk m c p))
/-- slot `p` of the quantised `w` filled; -/
abbrev wqV (c p : Dev nD) : sProp 𝕄 := owns (c : Thread nD τ) (wqS p) fullShare (qw (wblk m c p))
/-- the slot of the receive buffer that the device `r + 1` places before has filled. -/
abbrev bufV (c : Dev nD) (r : Fin 7) : sProp 𝕄 := owns (c : Thread nD τ) (bufS (dn r c)) fullShare (qx (xblk m (dn r c) c))

/-- The semaphores of the copies into staging slot `i` of `x` and of `w`, and of the copy out. -/
def xsS (i : Fin 2) : DmaSem sig := ⟨18 + i.val, lt_of_lt_of_le (Nat.add_lt_add_left i.isLt 18) (by decide)⟩
def wsS (i : Fin 2) : DmaSem sig := ⟨20 + i.val, lt_of_lt_of_le (Nat.add_lt_add_left i.isLt 20) (by decide)⟩
def osS : DmaSem sig := ⟨22, by decide⟩

theorem free_x (i : Fin 2) : lvOf (kind (.dma (xsS i))) = 0 := by revert i; decide
theorem free_w (i : Fin 2) : lvOf (kind (.dma (wsS i))) = 0 := by revert i; decide
theorem free_o : lvOf (kind (.dma osS)) = 0 := by decide

abbrev NX : ℕ := (xfS 0).view.dmaCredit
abbrev NW : ℕ := (wfS 0).view.dmaCredit
abbrev NO : ℕ := (oM).view.dmaCredit
theorem NX_pos : 0 < NX := View.dmaCredit_pos _ (by decide)
theorem NW_pos : 0 < NW := View.dmaCredit_pos _ (by decide)
theorem NO_pos : 0 < NO := View.dmaCredit_pos _ (by decide)

/-- The copy of rows block `p` of `x` into staging slot `i`, in flight; -/
def xFl (c : Dev nD) (i : Fin 2) (p : Dev nD) : sProp 𝕄 := Transfers.Flight EC (c : Thread nD τ) (.dma (xsS i)) () NX iprop(xfV m c i p ∗ xRow m c p)
/-- the same of `w`; -/
def wFl (c : Dev nD) (i : Fin 2) (p : Dev nD) : sProp 𝕄 := Transfers.Flight EC (c : Thread nD τ) (.dma (wsS i)) () NW iprop(wfV m c i p ∗ wRow m c p)
/-- the copy of the result out of its staging buffer. -/
def oFl (c : Dev nD) (Y : S512x2048.Idx → Elt F .f32) : sProp 𝕄 :=
  Transfers.Flight EC (c : Thread nD τ) (.dma osS) () NO iprop(owns (c : Thread nD τ) oM fullShare Y ∗ owns (c : Thread nD τ) voM fullShare Y)

/-- Owning a whole buffer is owning its points. -/
theorem owns_voM (c : Dev nD) (X : S512x2048.Idx → Elt F .f32) : (owns (c : Thread nD τ) voM fullShare X : sProp 𝕄) = ((c : Thread nD τ).loc cc0_scratch5 ↦{fullShare} X) :=
  owns_whole (c : Thread nD τ) cc0_scratch5 fullShare X
theorem owns_oM (c : Dev nD) (X : S512x2048.Idx → Elt F .f32) : (owns (c : Thread nD τ) oM fullShare X : sProp 𝕄) = ((c : Thread nD τ).loc main_v1 ↦{fullShare} X) :=
  owns_whole (c : Thread nD τ) main_v1 fullShare X

section Steps

variable (K : Dev nD × CI → ℕ) (c : Dev nD) {α : Type} {Q : α → sProp (MT nD τ sig Unit (Elt F) ℕ UU ℕ)}

section Copies

variable {k : PUnit → Prog (TpuEff nD τ sig (Elt F) Λ₀ .tc) α}

/-- The start of a copy of rows block `p` of `x` into staging slot `i`. -/
theorem x_start (i : Fin 2) (p : Dev nD) {off : Fin 2 → Nat} (hoff : off = ![512 * p.val, 0]) {hin : ∀ a, off a + S512x512.size a ≤ S4096x512.size a}
    {hst : ∀ a, (Rect.unit (s := S4096x512) off S512x512.size hin).stride a = 1}
    {dst : Memref sig .tc .vmem S512x512 .f32} (hdst₀ : dst = xfS i) {sm : SemLoc sig} (hsm : sm = .dma (xsS i))
    {hsrc : (xM.slice (Rect.unit (s := S4096x512) off S512x512.size hin) hst).view.WordExact} {hdst : dst.view.WordExact}
    {hsem : DmaTarget.Typed (nD := nD) .hbm sm (.here (p := .tc) dst)} {Y : S512x512.Idx → Elt F .f32} :
    ⊢ iprop(xRow m c p -∗ owns (c : Thread nD τ) (xfS i) fullShare Y -∗ zero c (.dma (xsS i))
        -∗ (xFl m c i p -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xM.slice (Rect.unit (s := S4096x512) off S512x512.size hin) hst) (.here dst) sm hsrc hdst hsem) k) Q) :=
  copy_start 𝒱₀ (c : Thread nD τ) none EC (src := xS p) (dst := xfS i) (sm := .dma (xsS i)) (by subst hoff; rfl) hdst₀ hsm () NX rfl NX_pos

/-- The wait for it. -/
theorem x_wait (i : Fin 2) (p : Dev nD) (n : ℕ) {sem : DmaSem sig} (hsem : sem = xsS i) {sp sp' : Space} {s' : Shape} {e' : EltTy}
    {srcw : Memref sig .tc sp' s' e'} {dstw : Memref sig .tc sp S512x512 .f32} {hsrc : srcw.view.WordExact} {hdst : dstw.view.WordExact} :
    ⊢ iprop(know m K -∗ debt c (oR c n) -∗ xFl m c i p
        -∗ (debt c (oR c n) -∗ zero c (.dma (xsS i)) -∗ xfV m c i p -∗ xRow m c p -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem srcw dstw hsrc hdst) k) Q) := by
  unfold debt xFl
  iintro #HK HO Hf Hk
  iapply (copy_wait 𝒱₀ (c : Thread nD τ) none EC hsem () (show dstw.view.dmaCredit = _ from rfl) (O := oR c n)) $$ Hf HO []
  · iapply (mayWait_ownR c (.dma (xsS i)) (free_x i) n); iapply (know_lev m K); iexact HK
  iintro ⟨Hd, Hs⟩ Hz HO
  iapply Hk $$ HO Hz Hd Hs

/-- The start of a copy of rows block `p` of `w` into staging slot `i`. -/
theorem w_start (i : Fin 2) (p : Dev nD) {off : Fin 2 → Nat} (hoff : off = ![512 * p.val, 0]) {hin : ∀ a, off a + S512x2048.size a ≤ S4096x2048.size a}
    {hst : ∀ a, (Rect.unit (s := S4096x2048) off S512x2048.size hin).stride a = 1}
    {dst : Memref sig .tc .vmem S512x2048 .f32} (hdst₀ : dst = wfS i) {sm : SemLoc sig} (hsm : sm = .dma (wsS i))
    {hsrc : (wM.slice (Rect.unit (s := S4096x2048) off S512x2048.size hin) hst).view.WordExact} {hdst : dst.view.WordExact}
    {hsem : DmaTarget.Typed (nD := nD) .hbm sm (.here (p := .tc) dst)} {Y : S512x2048.Idx → Elt F .f32} :
    ⊢ iprop(wRow m c p -∗ owns (c : Thread nD τ) (wfS i) fullShare Y -∗ zero c (.dma (wsS i))
        -∗ (wFl m c i p -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (wM.slice (Rect.unit (s := S4096x2048) off S512x2048.size hin) hst) (.here dst) sm hsrc hdst hsem) k) Q) :=
  copy_start 𝒱₀ (c : Thread nD τ) none EC (src := wS p) (dst := wfS i) (sm := .dma (wsS i)) (by subst hoff; rfl) hdst₀ hsm () NW rfl NW_pos

/-- The wait for it. -/
theorem w_wait (i : Fin 2) (p : Dev nD) (n : ℕ) {sem : DmaSem sig} (hsem : sem = wsS i) {sp sp' : Space} {s' : Shape} {e' : EltTy}
    {srcw : Memref sig .tc sp' s' e'} {dstw : Memref sig .tc sp S512x2048 .f32} {hsrc : srcw.view.WordExact} {hdst : dstw.view.WordExact} :
    ⊢ iprop(know m K -∗ debt c (oR c n) -∗ wFl m c i p
        -∗ (debt c (oR c n) -∗ zero c (.dma (wsS i)) -∗ wfV m c i p -∗ wRow m c p -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem srcw dstw hsrc hdst) k) Q) := by
  unfold debt wFl
  iintro #HK HO Hf Hk
  iapply (copy_wait 𝒱₀ (c : Thread nD τ) none EC hsem () (show dstw.view.dmaCredit = _ from rfl) (O := oR c n)) $$ Hf HO []
  · iapply (mayWait_ownR c (.dma (wsS i)) (free_w i) n); iapply (know_lev m K); iexact HK
  iintro ⟨Hd, Hs⟩ Hz HO
  iapply Hk $$ HO Hz Hd Hs

/-- The start of the copy out. -/
theorem o_start {sm : SemLoc sig} (hsm : sm = .dma osS) {hsrc : voM.view.WordExact} {hdst : oM.view.WordExact}
    {hsem : DmaTarget.Typed (nD := nD) .vmem sm (.here (p := .tc) oM)} {X Y : S512x2048.Idx → Elt F .f32} :
    ⊢ iprop(owns (c : Thread nD τ) voM fullShare Y -∗ owns (c : Thread nD τ) oM fullShare X -∗ zero c (.dma osS)
        -∗ (oFl c Y -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma voM (.here oM) sm hsrc hdst hsem) k) Q) :=
  copy_start 𝒱₀ (c : Thread nD τ) none EC (src := voM) (dst := oM) (sm := .dma osS) rfl rfl hsm () NO rfl NO_pos

/-- The wait for it. -/
theorem o_wait (n : ℕ) {sem : DmaSem sig} (hsem : sem = osS) {Y : S512x2048.Idx → Elt F .f32} {hsrc : voM.view.WordExact} {hdst : oM.view.WordExact} :
    ⊢ iprop(know m K -∗ debt c (oR c n) -∗ oFl c Y
        -∗ (debt c (oR c n) -∗ zero c (.dma osS) -∗ owns (c : Thread nD τ) oM fullShare Y -∗ owns (c : Thread nD τ) voM fullShare Y
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem voM oM hsrc hdst) k) Q) := by
  unfold debt oFl
  iintro #HK HO Hf Hk
  iapply (copy_wait 𝒱₀ (c : Thread nD τ) none EC hsem () rfl (O := oR c n)) $$ Hf HO []
  · iapply (mayWait_ownR c (.dma osS) free_o n); iapply (know_lev m K); iexact HK
  iintro ⟨Hd, Hs⟩ Hz HO
  iapply Hk $$ HO Hz Hd Hs

end Copies

/-! ## Loads and stores -/

/-- A load of a staged block of `x`; -/
theorem load_xf (i : Fin 2) {off : Fin 3 → Nat} (hoff : off = ![i.val, 0, 0]) {hin : ∀ a, off a + S1x512x512.size a ≤ S2x512x512.size a}
    {hl : xfM.view.LoadsAt (Rect.unit (s := S2x512x512) off S1x512x512.size hin)}
    {k : (S1x512x512.Idx → Elt F .f32) → Prog (TpuEff nD τ sig (Elt F) Λ₀ .tc) α} {X : S512x512.Idx → Elt F .f32} :
    ⊢ iprop(owns (c : Thread nD τ) (xfS i) fullShare X
        -∗ (owns (c : Thread nD τ) (xfS i) fullShare X -∗ wp frame (wpE (defs₀ (F := F)) 𝒱₀ (c : Thread nD τ) none) Set.univ (k (boxX X)) Q)
        -∗ wp frame (wpE (defs₀ (F := F)) 𝒱₀ (c : Thread nD τ) none) Set.univ (.op (.load xfM (Rect.unit (s := S2x512x512) off S1x512x512.size hin).toLoadRect hl) k) Q) :=
  load_slot 𝒱₀ (c : Thread nD τ) none hoff

/-- of a staged block of `w`; -/
theorem load_wf (i : Fin 2) {off : Fin 3 → Nat} (hoff : off = ![i.val, 0, 0]) {hin : ∀ a, off a + S1x512x2048.size a ≤ S2x512x2048.size a}
    {hl : wfM.view.LoadsAt (Rect.unit (s := S2x512x2048) off S1x512x2048.size hin)}
    {k : (S1x512x2048.Idx → Elt F .f32) → Prog (TpuEff nD τ sig (Elt F) Λ₀ .tc) α} {X : S512x2048.Idx → Elt F .f32} :
    ⊢ iprop(owns (c : Thread nD τ) (wfS i) fullShare X
        -∗ (owns (c : Thread nD τ) (wfS i) fullShare X -∗ wp frame (wpE (defs₀ (F := F)) 𝒱₀ (c : Thread nD τ) none) Set.univ (k (boxW X)) Q)
        -∗ wp frame (wpE (defs₀ (F := F)) 𝒱₀ (c : Thread nD τ) none) Set.univ (.op (.load wfM (Rect.unit (s := S2x512x2048) off S1x512x2048.size hin).toLoadRect hl) k) Q) :=
  load_slot 𝒱₀ (c : Thread nD τ) none hoff

/-- of a slot of the quantised `x`; -/
theorem load_xq (p : Dev nD) {off : Fin 3 → Nat} (hoff : off = ![p.val, 0, 0]) {hin : ∀ a, off a + S1x512x512.size a ≤ S8x512x512.size a}
    {hl : xqM.view.LoadsAt (Rect.unit (s := S8x512x512) off S1x512x512.size hin)}
    {k : (S1x512x512.Idx → Elt F .fp8e5m2) → Prog (TpuEff nD τ sig (Elt F) Λ₀ .tc) α} {X : S512x512.Idx → Elt F .fp8e5m2} :
    ⊢ iprop(owns (c : Thread nD τ) (xqS p) fullShare X
        -∗ (owns (c : Thread nD τ) (xqS p) fullShare X -∗ wp frame (wpE (defs₀ (F := F)) 𝒱₀ (c : Thread nD τ) none) Set.univ (k (boxX X)) Q)
        -∗ wp frame (wpE (defs₀ (F := F)) 𝒱₀ (c : Thread nD τ) none) Set.univ (.op (.load xqM (Rect.unit (s := S8x512x512) off S1x512x512.size hin).toLoadRect hl) k) Q) :=
  load_slot 𝒱₀ (c : Thread nD τ) none hoff

/-- of a slot of the receive buffer; -/
theorem load_buf (p : Dev nD) {off : Fin 3 → Nat} (hoff : off = ![p.val, 0, 0]) {hin : ∀ a, off a + S1x512x512.size a ≤ S8x512x512.size a}
    {hl : bufM.view.LoadsAt (Rect.unit (s := S8x512x512) off S1x512x512.size hin)}
    {k : (S1x512x512.Idx → Elt F .fp8e5m2) → Prog (TpuEff nD τ sig (Elt F) Λ₀ .tc) α} {X : S512x512.Idx → Elt F .fp8e5m2} :
    ⊢ iprop(owns (c : Thread nD τ) (bufS p) fullShare X
        -∗ (owns (c : Thread nD τ) (bufS p) fullShare X -∗ wp frame (wpE (defs₀ (F := F)) 𝒱₀ (c : Thread nD τ) none) Set.univ (k (boxX X)) Q)
        -∗ wp frame (wpE (defs₀ (F := F)) 𝒱₀ (c : Thread nD τ) none) Set.univ (.op (.load bufM (Rect.unit (s := S8x512x512) off S1x512x512.size hin).toLoadRect hl) k) Q) :=
  load_slot 𝒱₀ (c : Thread nD τ) none hoff

/-- of a slot of the quantised `w`. -/
theorem load_wq (p : Dev nD) {off : Fin 3 → Nat} (hoff : off = ![p.val, 0, 0]) {hin : ∀ a, off a + S1x512x2048.size a ≤ S8x512x2048.size a}
    {hl : wqM.view.LoadsAt (Rect.unit (s := S8x512x2048) off S1x512x2048.size hin)}
    {k : (S1x512x2048.Idx → Elt F .fp8e5m2) → Prog (TpuEff nD τ sig (Elt F) Λ₀ .tc) α} {X : S512x2048.Idx → Elt F .fp8e5m2} :
    ⊢ iprop(owns (c : Thread nD τ) (wqS p) fullShare X
        -∗ (owns (c : Thread nD τ) (wqS p) fullShare X -∗ wp frame (wpE (defs₀ (F := F)) 𝒱₀ (c : Thread nD τ) none) Set.univ (k (boxW X)) Q)
        -∗ wp frame (wpE (defs₀ (F := F)) 𝒱₀ (c : Thread nD τ) none) Set.univ (.op (.load wqM (Rect.unit (s := S8x512x2048) off S1x512x2048.size hin).toLoadRect hl) k) Q) :=
  load_slot 𝒱₀ (c : Thread nD τ) none hoff

/-- The store of rows block `p` of `x`, staged and narrowed, into slot `p`; -/
theorem store_xq (p : Dev nD) {off : Fin 3 → Nat} (hoff : off = ![p.val, 0, 0]) {hin : ∀ a, off a + S1x512x512.size a ≤ S8x512x512.size a}
    {w : S1x512x512.Idx → Elt F .fp8e5m2} (hw : w = k0_pay1 (boxX (xblk m c p) : Vec F S1x512x512 .f32))
    {hx : (xqM.access (Rect.unit (s := S8x512x512) off S1x512x512.size hin)).Stores Finset.univ}
    {hm : (Finset.univ : Finset (Rect.unit (s := S8x512x512) off S1x512x512.size hin).shape.Idx) = Finset.univ ∨ ∀ a, (Rect.unit (s := S8x512x512) off S1x512x512.size hin).stride a = 1}
    {k : PUnit → Prog (TpuEff nD τ sig (Elt F) Λ₀ .tc) α} {X : S512x512.Idx → Elt F .fp8e5m2} :
    ⊢ iprop(owns (c : Thread nD τ) (xqS p) fullShare X
        -∗ (xqV m c p -∗ wp frame (wpE (defs₀ (F := F)) 𝒱₀ (c : Thread nD τ) none) Set.univ (k ⟨⟩) Q)
        -∗ wp frame (wpE (defs₀ (F := F)) 𝒱₀ (c : Thread nD τ) none) Set.univ (.op (.store xqM (Rect.unit (s := S8x512x512) off S1x512x512.size hin) w Finset.univ hx hm) k) Q) := by
  subst hw
  have h := store_slot 𝒱₀ (c : Thread nD τ) none (defs := defs₀ (F := F)) (Q := Q) (m := xqM) hoff (p := hin) (p' := inb8 p) (hs := fun _ => rfl)
    (hq := squeezes_S1x512x512_S512x512) (w := k0_pay1 (boxX (xblk m c p) : Vec F S1x512x512 .f32)) (hx := hx) (hm := hm) (k := k) (X := X)
    (Ix := Unit) (Name := ℕ) (U := UU) (Lvl := ℕ)
  rwa [stored_x] at h

/-- the store of rows block `p` of `w` into slot `p`. -/
theorem store_wq (p : Dev nD) {off : Fin 3 → Nat} (hoff : off = ![p.val, 0, 0]) {hin : ∀ a, off a + S1x512x2048.size a ≤ S8x512x2048.size a}
    {w : S1x512x2048.Idx → Elt F .fp8e5m2} (hw : w = k0_pay13 (boxW (wblk m c p) : Vec F S1x512x2048 .f32))
    {hx : (wqM.access (Rect.unit (s := S8x512x2048) off S1x512x2048.size hin)).Stores Finset.univ}
    {hm : (Finset.univ : Finset (Rect.unit (s := S8x512x2048) off S1x512x2048.size hin).shape.Idx) = Finset.univ ∨ ∀ a, (Rect.unit (s := S8x512x2048) off S1x512x2048.size hin).stride a = 1}
    {k : PUnit → Prog (TpuEff nD τ sig (Elt F) Λ₀ .tc) α} {X : S512x2048.Idx → Elt F .fp8e5m2} :
    ⊢ iprop(owns (c : Thread nD τ) (wqS p) fullShare X
        -∗ (wqV m c p -∗ wp frame (wpE (defs₀ (F := F)) 𝒱₀ (c : Thread nD τ) none) Set.univ (k ⟨⟩) Q)
        -∗ wp frame (wpE (defs₀ (F := F)) 𝒱₀ (c : Thread nD τ) none) Set.univ (.op (.store wqM (Rect.unit (s := S8x512x2048) off S1x512x2048.size hin) w Finset.univ hx hm) k) Q) := by
  subst hw
  have h := store_slot 𝒱₀ (c : Thread nD τ) none (defs := defs₀ (F := F)) (Q := Q) (m := wqM) hoff (p := hin) (p' := inb8w p) (hs := fun _ => rfl)
    (hq := squeezes_S1x512x2048_S512x2048) (w := k0_pay13 (boxW (wblk m c p) : Vec F S1x512x2048 .f32)) (hx := hx) (hm := hm) (k := k) (X := X)
    (Ix := Unit) (Name := ℕ) (U := UU) (Lvl := ℕ)
  rwa [stored_w] at h

/-- Reading the word of one scale; -/
theorem load_sx {hl : (Memref.whole cc0_stg0_0 : Memref sig .tc .smem S1 .f32).view.LoadsAt (Rect.unit (s := S1) ![0] S1.size inb_S1_S1_0)}
    {k : (S1.Idx → Elt F .f32) → Prog (TpuEff nD τ sig (Elt F) Λ₀ .tc) α} {X : S1.Idx → Elt F .f32} :
    ⊢ iprop(((c : Thread nD τ).loc cc0_stg0_0 ↦{fullShare} X)
        -∗ (((c : Thread nD τ).loc cc0_stg0_0 ↦{fullShare} X) -∗ wp frame (wpE (defs₀ (F := F)) 𝒱₀ (c : Thread nD τ) none) Set.univ (k X) Q)
        -∗ wp frame (wpE (defs₀ (F := F)) 𝒱₀ (c : Thread nD τ) none) Set.univ (.op (.load (Memref.whole cc0_stg0_0 : Memref sig .tc .smem S1 .f32) (Rect.unit (s := S1) ![0] S1.size inb_S1_S1_0).toLoadRect hl) k) Q) := by
  iintro H Hk
  iapply (wp_load 𝒱₀ (c : Thread nD τ) none Set.univ (m := (Memref.whole cc0_stg0_0 : Memref sig .tc .smem S1 .f32)) (Finset.subset_univ _)) $$ H
  iintro H
  rw [show (Memref.whole cc0_stg0_0 : Memref sig .tc .smem S1 .f32).view.readAt (Elt F) (Rect.unit (s := S1) ![0] S1.size inb_S1_S1_0).toLoadRect X = X from
    Memref.readAt_unit_zero (Elt F) cc0_stg0_0 (by decide) inb_S1_S1_0 X]
  iapply Hk $$ H

/-- of the other. -/
theorem load_sw {hl : (Memref.whole cc0_stg1_0 : Memref sig .tc .smem S1 .f32).view.LoadsAt (Rect.unit (s := S1) ![0] S1.size inb_S1_S1_0)}
    {k : (S1.Idx → Elt F .f32) → Prog (TpuEff nD τ sig (Elt F) Λ₀ .tc) α} {X : S1.Idx → Elt F .f32} :
    ⊢ iprop(((c : Thread nD τ).loc cc0_stg1_0 ↦{fullShare} X)
        -∗ (((c : Thread nD τ).loc cc0_stg1_0 ↦{fullShare} X) -∗ wp frame (wpE (defs₀ (F := F)) 𝒱₀ (c : Thread nD τ) none) Set.univ (k X) Q)
        -∗ wp frame (wpE (defs₀ (F := F)) 𝒱₀ (c : Thread nD τ) none) Set.univ (.op (.load (Memref.whole cc0_stg1_0 : Memref sig .tc .smem S1 .f32) (Rect.unit (s := S1) ![0] S1.size inb_S1_S1_0).toLoadRect hl) k) Q) := by
  iintro H Hk
  iapply (wp_load 𝒱₀ (c : Thread nD τ) none Set.univ (m := (Memref.whole cc0_stg1_0 : Memref sig .tc .smem S1 .f32)) (Finset.subset_univ _)) $$ H
  iintro H
  rw [show (Memref.whole cc0_stg1_0 : Memref sig .tc .smem S1 .f32).view.readAt (Elt F) (Rect.unit (s := S1) ![0] S1.size inb_S1_S1_0).toLoadRect X = X from
    Memref.readAt_unit_zero (Elt F) cc0_stg1_0 (by decide) inb_S1_S1_0 X]
  iapply Hk $$ H

/-- The load of the result's staging buffer, whose value nothing uses; -/
theorem load_vo {hl : voM.view.LoadsAt (Rect.unit (s := S512x2048) ![0, 0] S512x2048.size inb_S512x2048_S512x2048_0_0)}
    {k : (S512x2048.Idx → Elt F .f32) → Prog (TpuEff nD τ sig (Elt F) Λ₀ .tc) α} {X : S512x2048.Idx → Elt F .f32} :
    ⊢ iprop(owns (c : Thread nD τ) voM fullShare X
        -∗ (owns (c : Thread nD τ) voM fullShare X -∗ wp frame (wpE (defs₀ (F := F)) 𝒱₀ (c : Thread nD τ) none) Set.univ (k X) Q)
        -∗ wp frame (wpE (defs₀ (F := F)) 𝒱₀ (c : Thread nD τ) none) Set.univ (.op (.load voM (Rect.unit (s := S512x2048) ![0, 0] S512x2048.size inb_S512x2048_S512x2048_0_0).toLoadRect hl) k) Q) := by
  rw [owns_voM]
  iintro H Hk
  iapply (wp_load 𝒱₀ (c : Thread nD τ) none Set.univ (m := voM) (Finset.subset_univ _)) $$ H
  iintro H
  rw [show voM.view.readAt (Elt F) (Rect.unit (s := S512x2048) ![0, 0] S512x2048.size inb_S512x2048_S512x2048_0_0).toLoadRect X = X from
    Memref.readAt_unit_zero (Elt F) cc0_scratch5 (by decide) inb_S512x2048_S512x2048_0_0 X]
  iapply Hk $$ H

/-- the store of the result over it. -/
theorem store_vo {w : S512x2048.Idx → Elt F .f32}
    {hx : (voM.access (Rect.unit (s := S512x2048) ![0, 0] S512x2048.size inb_S512x2048_S512x2048_0_0)).Stores Finset.univ}
    {hm : (Finset.univ : Finset (Rect.unit (s := S512x2048) ![0, 0] S512x2048.size inb_S512x2048_S512x2048_0_0).shape.Idx) = Finset.univ ∨ ∀ a, (Rect.unit (s := S512x2048) ![0, 0] S512x2048.size inb_S512x2048_S512x2048_0_0).stride a = 1}
    {k : PUnit → Prog (TpuEff nD τ sig (Elt F) Λ₀ .tc) α} {X : S512x2048.Idx → Elt F .f32} :
    ⊢ iprop(owns (c : Thread nD τ) voM fullShare X
        -∗ (owns (c : Thread nD τ) voM fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store voM (Rect.unit (s := S512x2048) ![0, 0] S512x2048.size inb_S512x2048_S512x2048_0_0) w Finset.univ hx hm) k) Q) := by
  rw [owns_voM, owns_voM]
  iintro H Hk
  iapply (wp_store 𝒱₀ (c : Thread nD τ) none Set.univ (m := voM) (r := Rect.unit (s := S512x2048) ![0, 0] S512x2048.size inb_S512x2048_S512x2048_0_0) (w := w) (f := X) (Finset.subset_univ _)) $$ H
  iintro H
  rw [show (voM.access (Rect.unit (s := S512x2048) ![0, 0] S512x2048.size inb_S512x2048_S512x2048_0_0)).write (Elt F) X w Finset.univ = w from
    Memref.write_access_unit_zero_univ (Elt F) cc0_scratch5 (by decide) inb_S512x2048_S512x2048_0_0 X w]
  iapply Hk $$ H

end Steps

end Cert.Mesh

end
-- ==== Proof.PartsX.lean ====
/-
# The kernel on one device: the blocks of `x`

The body of the kernel is a sequence of pieces. Here are the first ten, in which a device signals the others, brings its blocks
of `x` in, narrows them, passes the barrier and sends the blocks; for each piece, what it takes and what it leaves, with its
end at any continuation.
-/
module

public import proofs.«01_k».proof.Proof.Local

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A run of a piece of the kernel on device `c`, ending in `Q`. -/
abbrev run (c : Dev nD) {α : Type} (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

/-- The staging memrefs of the two scales. -/
abbrev sxM : Memref sig .tc .smem S1 .f32 := Memref.whole cc0_stg0_0
abbrev swM : Memref sig .tc .smem S1 .f32 := Memref.whole cc0_stg1_0

/-- The one index of a scale. -/
abbrev one1 : S1.Idx := Shape.Idx.first (by decide)

theorem junk_intro (c : Dev nD) {sp : Space} {s : Shape} {e : EltTy} (r : Memref sig .tc sp s e) {v : s.Idx → Elt F e} :
    (owns (c : Thread nD τ) r fullShare v : sProp 𝕄) ⊢ junk c r := by
  unfold junk
  iintro H
  iexists v
  iexact H
theorem junk_elim (c : Dev nD) {sp : Space} {s : Shape} {e : EltTy} (r : Memref sig .tc sp s e) :
    (junk c r : sProp 𝕄) ⊢ iprop(∃ v, owns (c : Thread nD τ) r fullShare v) := .rfl

/-- The devices the kernel names in its signals and in its transfers. -/
theorem dev1 : ∀ c : Dev nD, (⟨k0_dev1 c, k0_dev1_lt c⟩ : Dev nD) = up 0 c := by decide +kernel
theorem dev2 : ∀ c : Dev nD, (⟨k0_dev2 c, k0_dev2_lt c⟩ : Dev nD) = up 1 c := by decide +kernel
theorem dev3 : ∀ c : Dev nD, (⟨k0_dev3 c, k0_dev3_lt c⟩ : Dev nD) = up 2 c := by decide +kernel
theorem dev4 : ∀ c : Dev nD, (⟨k0_dev4 c, k0_dev4_lt c⟩ : Dev nD) = up 3 c := by decide +kernel
theorem dev5 : ∀ c : Dev nD, (⟨k0_dev5 c, k0_dev5_lt c⟩ : Dev nD) = up 4 c := by decide +kernel
theorem dev6 : ∀ c : Dev nD, (⟨k0_dev6 c, k0_dev6_lt c⟩ : Dev nD) = up 5 c := by decide +kernel
theorem dev7 : ∀ c : Dev nD, (⟨k0_dev7 c, k0_dev7_lt c⟩ : Dev nD) = up 6 c := by decide +kernel
theorem dev8 : ∀ c : Dev nD, (⟨k0_dev8 c, k0_dev8_lt c⟩ : Dev nD) = up 0 c := by decide +kernel
theorem dev9 : ∀ c : Dev nD, (⟨k0_dev9 c, k0_dev9_lt c⟩ : Dev nD) = up 1 c := by decide +kernel
theorem dev10 : ∀ c : Dev nD, (⟨k0_dev10 c, k0_dev10_lt c⟩ : Dev nD) = up 2 c := by decide +kernel
theorem dev11 : ∀ c : Dev nD, (⟨k0_dev11 c, k0_dev11_lt c⟩ : Dev nD) = up 3 c := by decide +kernel
theorem dev12 : ∀ c : Dev nD, (⟨k0_dev12 c, k0_dev12_lt c⟩ : Dev nD) = up 4 c := by decide +kernel
theorem dev13 : ∀ c : Dev nD, (⟨k0_dev13 c, k0_dev13_lt c⟩ : Dev nD) = up 5 c := by decide +kernel
theorem dev14 : ∀ c : Dev nD, (⟨k0_dev14 c, k0_dev14_lt c⟩ : Dev nD) = up 6 c := by decide +kernel

/-- A separating conjunction over the seven shifts, written out. -/
theorem seven (P : Fin 7 → sProp (MT nD τ sig Unit (Elt F) ℕ UU ℕ)) : bigSep Finset.univ P = iprop(P 0 ∗ P 1 ∗ P 2 ∗ P 3 ∗ P 4 ∗ P 5 ∗ P 6) :=
  bigSep_univ_eq_bigSepL (I := Fin 7) [0, 1, 2, 3, 4, 5, 6] (by decide) (by decide) P

section Parts

variable (K : Dev nD × CI → ℕ) (c : Dev nD)

/-- Part 1. The device reads its number and gives the first five signals. -/
theorem part1 {Q : (Σ' (d0 : Dev nD) (v2 : BitVec 32) (v3 : Sems sig S_) (v24 : BitVec 32), BitVec 32) → sProp (MT nD τ sig Unit (Elt F) ℕ UU ℕ)} :
    ⊢ iprop(know m K -∗ debt c (oB c 0) -∗ sigR c 0 -∗ sigR c 1 -∗ sigR c 2 -∗ sigR c 3 -∗ sigR c 4
      -∗ (∀ v2 : BitVec 32, ∀ v24 : BitVec 32, debt c (oB c 5) -∗ Q ⟨c, v2, (SemArray.scalar (sig.barrier 0 rfl)), v24, 8#32⟩)
      -∗ run c (k0_part1 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10) Q) := by
  rw [k0_part1_eq_skeleton]
  unfold k0_part1_skel run
  simp only [semSignalWord, semWaitWord, smemLoad, smemLoadElt, Prog.lift, Prog.bind_op, Prog.bind_ret, Prog.pure_eq_ret, wp_deviceId]
  iintro #HK HO HSg0 HSg1 HSg2 HSg3 HSg4 Hk
  iapply (signal_step m K c 0 (a := 0) (b := 1) (dev1 c) rfl rfl rfl) $$ HK HO HSg0
  iintro HO
  iapply (signal_step m K c 1 (a := 1) (b := 2) (dev2 c) rfl rfl rfl) $$ HK HO HSg1
  iintro HO
  iapply (signal_step m K c 2 (a := 2) (b := 3) (dev3 c) rfl rfl rfl) $$ HK HO HSg2
  iintro HO
  iapply (signal_step m K c 3 (a := 3) (b := 4) (dev4 c) rfl rfl rfl) $$ HK HO HSg3
  iintro HO
  iapply (signal_step m K c 4 (a := 4) (b := 5) (dev5 c) rfl rfl rfl) $$ HK HO HSg4
  iintro HO
  rw [wp_ret]
  imodintro
  iapply Hk $$ HO

/-- Part 2. The last two signals; the copy of the first block of `x` starts. -/
theorem part2 (v2 v24 c8 : BitVec 32) {Q : (Σ' (v33 : BitVec 32) (v35 : BitVec 32) (v37 : BitVec 32) (v39 : BitVec 32) (v41 : BitVec 32) (v43 : BitVec 32), BitVec 32) → sProp (MT nD τ sig Unit (Elt F) ℕ UU ℕ)} :
    ⊢ iprop(know m K -∗ debt c (oB c 5) -∗ sigR c 5 -∗ sigR c 6 -∗ junk c (xfS 0) -∗ xRow m c (up 0 c) -∗ zero c (.dma (xsS 0))
      -∗ (∀ v33 : BitVec 32, ∀ v35 : BitVec 32, ∀ v37 : BitVec 32, ∀ v39 : BitVec 32, ∀ v41 : BitVec 32, ∀ v43 : BitVec 32, ∀ v45 : BitVec 32, debt c (oR c 0) -∗ xFl m c 0 (up 0 c) -∗ Q ⟨v33, v35, v37, v39, v41, v43, v45⟩)
      -∗ run c (k0_part2 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 (SemArray.scalar (sig.barrier 0 rfl)) v24 c8) Q) := by
  rw [k0_part2_eq_skeleton]
  unfold k0_part2_skel run
  simp only [semSignalWord, semWaitWord, smemLoad, smemLoadElt, Prog.lift, Prog.bind_op, Prog.bind_ret, Prog.pure_eq_ret, wp_deviceId]
  iintro #HK HO HSg5 HSg6 HXf0 HXr0 HZx0 Hk
  iapply (signal_step m K c 5 (a := 5) (b := 6) (dev6 c) rfl rfl rfl) $$ HK HO HSg5
  iintro HO
  iapply (signal_step m K c 6 (a := 6) (b := 7) (dev7 c) rfl rfl rfl) $$ HK HO HSg6
  iintro HO
  ihave HO := (Entails.of_eq (congrArg (debt (F := F) c) (oB_end c))) $$ HO
  ihave HXf0 := (junk_elim c _) $$ HXf0
  icases HXf0 with ⟨%y1, HXf0⟩
  iapply (x_start m c 0 (up 0 c) (k0_off1_eq c 0) rfl rfl) $$ HXr0 HXf0 HZx0
  iintro HFx0
  rw [wp_ret]
  imodintro
  iapply Hk $$ HO HFx0

/-- Part 3. The copies of the second block of `x` and of the first two of `w` start; the first block of `x` arrives and is read. -/
theorem part3 (v2 v33 : BitVec 32) {Q : (Vec F S1x512x512 .f32) → sProp (MT nD τ sig Unit (Elt F) ℕ UU ℕ)} :
    ⊢ iprop(know m K -∗ junk c (xfS 1) -∗ xRow m c (up 1 c) -∗ zero c (.dma (xsS 1)) -∗ junk c (wfS 0) -∗ wRow m c c -∗ zero c (.dma (wsS 0))
      -∗ junk c (wfS 1) -∗ wRow m c (dn 0 c) -∗ zero c (.dma (wsS 1)) -∗ debt c (oR c 0) -∗ xFl m c 0 (up 0 c)
      -∗ (xFl m c 1 (up 1 c) -∗ wFl m c 0 c -∗ wFl m c 1 (dn 0 c) -∗ debt c (oR c 0) -∗ zero c (.dma (xsS 0)) -∗ xRow m c (up 0 c)
          -∗ xfV m c 0 (up 0 c) -∗ Q (boxX (xblk m c (up 0 c))))
      -∗ run c (k0_part3 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v33) Q) := by
  rw [k0_part3_eq_skeleton]
  unfold k0_part3_skel run
  simp only [semSignalWord, semWaitWord, smemLoad, smemLoadElt, Prog.lift, Prog.bind_op, Prog.bind_ret, Prog.pure_eq_ret, wp_deviceId]
  iintro #HK HXf1 HXr1 HZx1 HWf0 HWrO HZw0 HWf1 HWr0 HZw1 HO HFx0 Hk
  ihave HXf1 := (junk_elim c _) $$ HXf1
  icases HXf1 with ⟨%y1, HXf1⟩
  iapply (x_start m c 1 (up 1 c) (k0_off1_eq c 1) rfl rfl) $$ HXr1 HXf1 HZx1
  iintro HFx1
  ihave HWf0 := (junk_elim c _) $$ HWf0
  icases HWf0 with ⟨%y2, HWf0⟩
  iapply (w_start m c 0 c (k0_off2_eq c) rfl rfl) $$ HWrO HWf0 HZw0
  iintro HFw0
  ihave HWf1 := (junk_elim c _) $$ HWf1
  icases HWf1 with ⟨%y3, HWf1⟩
  iapply (w_start m c 1 (dn 0 c) (k0_off3_eq c 0) rfl rfl) $$ HWr0 HWf1 HZw1
  iintro HFw1
  iapply (x_wait m K c 0 (up 0 c) 0 rfl) $$ HK HO HFx0
  iintro HO HZx0 HXf0 HXr0
  iapply (load_xf c 0 rfl) $$ HXf0
  iintro HXf0
  rw [wp_ret]
  imodintro
  iapply Hk $$ HFx1 HFw0 HFw1 HO HZx0 HXr0 HXf0

/-- Part 4. The first block is stored, the third is asked for, the barrier is passed and the first transfer starts; the second block arrives. -/
theorem part4 (v33 v35 v37 : BitVec 32) {Q : (PUnit) → sProp (MT nD τ sig Unit (Elt F) ℕ UU ℕ)} :
    ⊢ iprop(know m K -∗ junk c (xqS (up 0 c)) -∗ xfV m c 0 (up 0 c) -∗ xRow m c (up 2 c) -∗ zero c (.dma (xsS 0)) -∗ debt c (oR c 0) -∗ barR c
      -∗ sendR c 0 -∗ xFl m c 1 (up 1 c)
      -∗ (xFl m c 0 (up 2 c) -∗ zero c (.reg barS) -∗ junk (up 1 c) (bufS c) -∗ junk (up 2 c) (bufS c) -∗ junk (up 3 c) (bufS c)
          -∗ junk (up 4 c) (bufS c) -∗ junk (up 5 c) (bufS c) -∗ junk (up 6 c) (bufS c) -∗ backR c 0 -∗ debt c (oR c 1)
          -∗ zero c (.dma (xsS 1)) -∗ xfV m c 1 (up 1 c) -∗ xRow m c (up 1 c) -∗ Q ⟨⟩)
      -∗ run c (k0_part4 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c (SemArray.scalar (sig.barrier 0 rfl)) v33 v35 v37 (boxX (xblk m c (up 0 c)))) Q) := by
  rw [k0_part4_eq_skeleton]
  unfold k0_part4_skel run
  simp only [semSignalWord, semWaitWord, smemLoad, smemLoadElt, Prog.lift, Prog.bind_op, Prog.bind_ret, Prog.pure_eq_ret, wp_deviceId]
  iintro #HK HXq0 HXf0 HXr2 HZx0 HO HBar HSn0 HFx1 Hk
  ihave HXq0 := (junk_elim c _) $$ HXq0
  icases HXq0 with ⟨%y1, HXq0⟩
  iapply (load_xq c (up 0 c) (k0_off4_eq c 0)) $$ HXq0
  iintro HXq0
  iapply (store_xq m c (up 0 c) (k0_off4_eq c 0) rfl) $$ HXq0
  iintro HXq0
  iapply (x_start m c 0 (up 2 c) (k0_off1_eq c 2) rfl rfl) $$ HXr2 HXf0 HZx0
  iintro HFx0
  iapply (bar_step m K c rfl) $$ HK HO HBar
  iintro HO Hzb HB
  ihave HB := (Entails.of_eq (seven (fun r : Fin 7 => junk (up r c) (bufS c)))) $$ HB
  icases HB with ⟨HBs0, HBs1, HBs2, HBs3, HBs4, HBs5, HBs6⟩
  iapply (send_step m K c 0 (a := 0) (b := 1) (dev8 c) (k0_off6_eq c 0) (k0_off5_eq c) rfl rfl rfl rfl rfl) $$ HK HO HSn0 HXq0 HBs0
  iintro HO HBk0
  iapply (x_wait m K c 1 (up 1 c) 1 rfl) $$ HK HO HFx1
  iintro HO HZx1 HXf1 HXr1
  rw [wp_ret]
  imodintro
  iapply Hk $$ HFx0 Hzb HBs1 HBs2 HBs3 HBs4 HBs5 HBs6 HBk0 HO HZx1 HXf1 HXr1

/-- Part 5. The second block is read, stored and sent, the fourth is asked for; the third arrives and is read. -/
theorem part5 (v35 v37 v39 : BitVec 32) {Q : (FVec F S512x512 .f32) → sProp (MT nD τ sig Unit (Elt F) ℕ UU ℕ)} :
    ⊢ iprop(know m K -∗ xfV m c 1 (up 1 c) -∗ junk c (xqS (up 1 c)) -∗ xRow m c (up 3 c) -∗ zero c (.dma (xsS 1)) -∗ debt c (oR c 1)
      -∗ sendR c 1 -∗ junk (up 1 c) (bufS c) -∗ xFl m c 0 (up 2 c)
      -∗ (xFl m c 1 (up 3 c) -∗ backR c 1 -∗ debt c (oR c 2) -∗ zero c (.dma (xsS 0)) -∗ xRow m c (up 2 c) -∗ xfV m c 0 (up 2 c)
          -∗ Q (k0_pay3 (boxX (xblk m c (up 2 c)))))
      -∗ run c (k0_part5 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v35 v37 v39) Q) := by
  rw [k0_part5_eq_skeleton]
  unfold k0_part5_skel run
  simp only [semSignalWord, semWaitWord, smemLoad, smemLoadElt, Prog.lift, Prog.bind_op, Prog.bind_ret, Prog.pure_eq_ret, wp_deviceId]
  iintro #HK HXf1 HXq1 HXr3 HZx1 HO HSn1 HBs1 HFx0 Hk
  iapply (load_xf c 1 rfl) $$ HXf1
  iintro HXf1
  ihave HXq1 := (junk_elim c _) $$ HXq1
  icases HXq1 with ⟨%y1, HXq1⟩
  iapply (load_xq c (up 1 c) (k0_off4_eq c 1)) $$ HXq1
  iintro HXq1
  iapply (store_xq m c (up 1 c) (k0_off4_eq c 1) rfl) $$ HXq1
  iintro HXq1
  iapply (x_start m c 1 (up 3 c) (k0_off1_eq c 3) rfl rfl) $$ HXr3 HXf1 HZx1
  iintro HFx1
  iapply (send_step m K c 1 (a := 1) (b := 2) (dev9 c) (k0_off6_eq c 1) (k0_off5_eq c) rfl rfl rfl rfl rfl) $$ HK HO HSn1 HXq1 HBs1
  iintro HO HBk1
  iapply (x_wait m K c 0 (up 2 c) 2 rfl) $$ HK HO HFx0
  iintro HO HZx0 HXf0 HXr2
  iapply (load_xf c 0 rfl) $$ HXf0
  iintro HXf0
  rw [wp_ret]
  imodintro
  iapply Hk $$ HFx1 HBk1 HO HZx0 HXr2 HXf0

/-- Part 6. The third block is stored and sent, the fifth is asked for; the fourth arrives and is read. -/
theorem part6 (v37 v39 v41 : BitVec 32) {Q : (FVec F S512x512 .fp8e5m2) → sProp (MT nD τ sig Unit (Elt F) ℕ UU ℕ)} :
    ⊢ iprop(know m K -∗ junk c (xqS (up 2 c)) -∗ xfV m c 0 (up 2 c) -∗ xRow m c (up 4 c) -∗ zero c (.dma (xsS 0)) -∗ debt c (oR c 2)
      -∗ sendR c 2 -∗ junk (up 2 c) (bufS c) -∗ xFl m c 1 (up 3 c)
      -∗ (xFl m c 0 (up 4 c) -∗ backR c 2 -∗ debt c (oR c 3) -∗ zero c (.dma (xsS 1)) -∗ xRow m c (up 3 c) -∗ xfV m c 1 (up 3 c)
          -∗ Q (k0_pay5 (boxX (xblk m c (up 3 c)))))
      -∗ run c (k0_part6 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v37 v39 v41 (k0_pay3 (boxX (xblk m c (up 2 c))))) Q) := by
  rw [k0_part6_eq_skeleton]
  unfold k0_part6_skel run
  simp only [semSignalWord, semWaitWord, smemLoad, smemLoadElt, Prog.lift, Prog.bind_op, Prog.bind_ret, Prog.pure_eq_ret, wp_deviceId]
  iintro #HK HXq2 HXf0 HXr4 HZx0 HO HSn2 HBs2 HFx1 Hk
  ihave HXq2 := (junk_elim c _) $$ HXq2
  icases HXq2 with ⟨%y1, HXq2⟩
  iapply (load_xq c (up 2 c) (k0_off4_eq c 2)) $$ HXq2
  iintro HXq2
  iapply (store_xq m c (up 2 c) (k0_off4_eq c 2) rfl) $$ HXq2
  iintro HXq2
  iapply (x_start m c 0 (up 4 c) (k0_off1_eq c 4) rfl rfl) $$ HXr4 HXf0 HZx0
  iintro HFx0
  iapply (send_step m K c 2 (a := 2) (b := 3) (dev10 c) (k0_off6_eq c 2) (k0_off5_eq c) rfl rfl rfl rfl rfl) $$ HK HO HSn2 HXq2 HBs2
  iintro HO HBk2
  iapply (x_wait m K c 1 (up 3 c) 3 rfl) $$ HK HO HFx1
  iintro HO HZx1 HXf1 HXr3
  iapply (load_xf c 1 rfl) $$ HXf1
  iintro HXf1
  rw [wp_ret]
  imodintro
  iapply Hk $$ HFx0 HBk2 HO HZx1 HXr3 HXf1

/-- Part 7. The fourth block is stored and sent, the sixth is asked for; the fifth arrives and is read. -/
theorem part7 (v39 v41 v43 : BitVec 32) {Q : (FVec F S512x512 .fp8e5m2) → sProp (MT nD τ sig Unit (Elt F) ℕ UU ℕ)} :
    ⊢ iprop(know m K -∗ junk c (xqS (up 3 c)) -∗ xfV m c 1 (up 3 c) -∗ xRow m c (up 5 c) -∗ zero c (.dma (xsS 1)) -∗ debt c (oR c 3)
      -∗ sendR c 3 -∗ junk (up 3 c) (bufS c) -∗ xFl m c 0 (up 4 c)
      -∗ (xFl m c 1 (up 5 c) -∗ backR c 3 -∗ debt c (oR c 4) -∗ zero c (.dma (xsS 0)) -∗ xRow m c (up 4 c) -∗ xfV m c 0 (up 4 c)
          -∗ Q (k0_pay7 (boxX (xblk m c (up 4 c)))))
      -∗ run c (k0_part7 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v39 v41 v43 (k0_pay5 (boxX (xblk m c (up 3 c))))) Q) := by
  rw [k0_part7_eq_skeleton]
  unfold k0_part7_skel run
  simp only [semSignalWord, semWaitWord, smemLoad, smemLoadElt, Prog.lift, Prog.bind_op, Prog.bind_ret, Prog.pure_eq_ret, wp_deviceId]
  iintro #HK HXq3 HXf1 HXr5 HZx1 HO HSn3 HBs3 HFx0 Hk
  ihave HXq3 := (junk_elim c _) $$ HXq3
  icases HXq3 with ⟨%y1, HXq3⟩
  iapply (load_xq c (up 3 c) (k0_off4_eq c 3)) $$ HXq3
  iintro HXq3
  iapply (store_xq m c (up 3 c) (k0_off4_eq c 3) rfl) $$ HXq3
  iintro HXq3
  iapply (x_start m c 1 (up 5 c) (k0_off1_eq c 5) rfl rfl) $$ HXr5 HXf1 HZx1
  iintro HFx1
  iapply (send_step m K c 3 (a := 3) (b := 4) (dev11 c) (k0_off6_eq c 3) (k0_off5_eq c) rfl rfl rfl rfl rfl) $$ HK HO HSn3 HXq3 HBs3
  iintro HO HBk3
  iapply (x_wait m K c 0 (up 4 c) 4 rfl) $$ HK HO HFx0
  iintro HO HZx0 HXf0 HXr4
  iapply (load_xf c 0 rfl) $$ HXf0
  iintro HXf0
  rw [wp_ret]
  imodintro
  iapply Hk $$ HFx1 HBk3 HO HZx0 HXr4 HXf0

/-- Part 8. The fifth block is stored and sent, the seventh is asked for; the sixth arrives and is read. -/
theorem part8 (v41 v43 v45 : BitVec 32) {Q : (FVec F S512x512 .fp8e5m2) → sProp (MT nD τ sig Unit (Elt F) ℕ UU ℕ)} :
    ⊢ iprop(know m K -∗ junk c (xqS (up 4 c)) -∗ xfV m c 0 (up 4 c) -∗ xRow m c (up 6 c) -∗ zero c (.dma (xsS 0)) -∗ debt c (oR c 4)
      -∗ sendR c 4 -∗ junk (up 4 c) (bufS c) -∗ xFl m c 1 (up 5 c) -∗ junk c (xqS (up 5 c))
      -∗ (xFl m c 0 (up 6 c) -∗ backR c 4 -∗ debt c (oR c 5) -∗ zero c (.dma (xsS 1)) -∗ xRow m c (up 5 c) -∗ xfV m c 1 (up 5 c)
          -∗ junk c (xqS (up 5 c)) -∗ Q (k0_pay9 (boxX (xblk m c (up 5 c)))))
      -∗ run c (k0_part8 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v41 v43 v45 (k0_pay7 (boxX (xblk m c (up 4 c))))) Q) := by
  rw [k0_part8_eq_skeleton]
  unfold k0_part8_skel run
  simp only [semSignalWord, semWaitWord, smemLoad, smemLoadElt, Prog.lift, Prog.bind_op, Prog.bind_ret, Prog.pure_eq_ret, wp_deviceId]
  iintro #HK HXq4 HXf0 HXr6 HZx0 HO HSn4 HBs4 HFx1 HXq5 Hk
  ihave HXq4 := (junk_elim c _) $$ HXq4
  icases HXq4 with ⟨%y1, HXq4⟩
  iapply (load_xq c (up 4 c) (k0_off4_eq c 4)) $$ HXq4
  iintro HXq4
  iapply (store_xq m c (up 4 c) (k0_off4_eq c 4) rfl) $$ HXq4
  iintro HXq4
  iapply (x_start m c 0 (up 6 c) (k0_off1_eq c 6) rfl rfl) $$ HXr6 HXf0 HZx0
  iintro HFx0
  iapply (send_step m K c 4 (a := 4) (b := 5) (dev12 c) (k0_off6_eq c 4) (k0_off5_eq c) rfl rfl rfl rfl rfl) $$ HK HO HSn4 HXq4 HBs4
  iintro HO HBk4
  iapply (x_wait m K c 1 (up 5 c) 5 rfl) $$ HK HO HFx1
  iintro HO HZx1 HXf1 HXr5
  iapply (load_xf c 1 rfl) $$ HXf1
  iintro HXf1
  ihave HXq5 := (junk_elim c _) $$ HXq5
  icases HXq5 with ⟨%y2, HXq5⟩
  iapply (load_xq c (up 5 c) (k0_off4_eq c 5)) $$ HXq5
  iintro HXq5
  ihave HXq5 := (junk_intro c _) $$ HXq5
  rw [wp_ret]
  imodintro
  iapply Hk $$ HFx0 HBk4 HO HZx1 HXr5 HXf1 HXq5

/-- Part 9. The sixth block is stored and sent, the device's own is asked for; the seventh arrives, is read and stored. -/
theorem part9 (v2 v43 v45 : BitVec 32) {Q : (PUnit) → sProp (MT nD τ sig Unit (Elt F) ℕ UU ℕ)} :
    ⊢ iprop(know m K -∗ junk c (xqS (up 5 c)) -∗ xfV m c 1 (up 5 c) -∗ xRow m c c -∗ zero c (.dma (xsS 1)) -∗ debt c (oR c 5) -∗ sendR c 5
      -∗ junk (up 5 c) (bufS c) -∗ xFl m c 0 (up 6 c) -∗ junk c (xqS (up 6 c))
      -∗ (xFl m c 1 c -∗ backR c 5 -∗ debt c (oR c 6) -∗ zero c (.dma (xsS 0)) -∗ xRow m c (up 6 c) -∗ xfV m c 0 (up 6 c)
          -∗ xqV m c (up 6 c) -∗ Q ⟨⟩)
      -∗ run c (k0_part9 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v43 v45 (k0_pay9 (boxX (xblk m c (up 5 c))))) Q) := by
  rw [k0_part9_eq_skeleton]
  unfold k0_part9_skel run
  simp only [semSignalWord, semWaitWord, smemLoad, smemLoadElt, Prog.lift, Prog.bind_op, Prog.bind_ret, Prog.pure_eq_ret, wp_deviceId]
  iintro #HK HXq5 HXf1 HXrO HZx1 HO HSn5 HBs5 HFx0 HXq6 Hk
  ihave HXq5 := (junk_elim c _) $$ HXq5
  icases HXq5 with ⟨%y1, HXq5⟩
  iapply (store_xq m c (up 5 c) (k0_off4_eq c 5) rfl) $$ HXq5
  iintro HXq5
  iapply (x_start m c 1 c (k0_off7_eq c) rfl rfl) $$ HXrO HXf1 HZx1
  iintro HFx1
  iapply (send_step m K c 5 (a := 5) (b := 6) (dev13 c) (k0_off6_eq c 5) (k0_off5_eq c) rfl rfl rfl rfl rfl) $$ HK HO HSn5 HXq5 HBs5
  iintro HO HBk5
  iapply (x_wait m K c 0 (up 6 c) 6 rfl) $$ HK HO HFx0
  iintro HO HZx0 HXf0 HXr6
  iapply (load_xf c 0 rfl) $$ HXf0
  iintro HXf0
  ihave HXq6 := (junk_elim c _) $$ HXq6
  icases HXq6 with ⟨%y2, HXq6⟩
  iapply (load_xq c (up 6 c) (k0_off4_eq c 6)) $$ HXq6
  iintro HXq6
  iapply (store_xq m c (up 6 c) (k0_off4_eq c 6) rfl) $$ HXq6
  iintro HXq6
  rw [wp_ret]
  imodintro
  iapply Hk $$ HFx1 HBk5 HO HZx0 HXr6 HXf0 HXq6

/-- Part 10. The seventh block is sent; the device's own arrives, is read and stored; the first block of `w` arrives. -/
theorem part10 (v2 v45 : BitVec 32) {Q : (PUnit) → sProp (MT nD τ sig Unit (Elt F) ℕ UU ℕ)} :
    ⊢ iprop(know m K -∗ debt c (oR c 6) -∗ sendR c 6 -∗ xqV m c (up 6 c) -∗ junk (up 6 c) (bufS c) -∗ xFl m c 1 c -∗ junk c (xqS c)
      -∗ wFl m c 0 c
      -∗ (backR c 6 -∗ zero c (.dma (xsS 1)) -∗ xRow m c c -∗ xfV m c 1 c -∗ xqV m c c -∗ debt c (oR c 7) -∗ zero c (.dma (wsS 0))
          -∗ wfV m c 0 c -∗ wRow m c c -∗ Q ⟨⟩)
      -∗ run c (k0_part10 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v45) Q) := by
  rw [k0_part10_eq_skeleton]
  unfold k0_part10_skel run
  simp only [semSignalWord, semWaitWord, smemLoad, smemLoadElt, Prog.lift, Prog.bind_op, Prog.bind_ret, Prog.pure_eq_ret, wp_deviceId]
  iintro #HK HO HSn6 HXq6 HBs6 HFx1 HXqO HFw0 Hk
  iapply (send_step m K c 6 (a := 6) (b := 7) (dev14 c) (k0_off6_eq c 6) (k0_off5_eq c) rfl rfl rfl rfl rfl) $$ HK HO HSn6 HXq6 HBs6
  iintro HO HBk6
  iapply (x_wait m K c 1 c 7 rfl) $$ HK HO HFx1
  iintro HO HZx1 HXf1 HXrO
  iapply (load_xf c 1 rfl) $$ HXf1
  iintro HXf1
  ihave HXqO := (junk_elim c _) $$ HXqO
  icases HXqO with ⟨%y1, HXqO⟩
  iapply (load_xq c c (k0_off8_eq c)) $$ HXqO
  iintro HXqO
  iapply (store_xq m c c (k0_off8_eq c) rfl) $$ HXqO
  iintro HXqO
  iapply (w_wait m K c 0 c 7 rfl) $$ HK HO HFw0
  iintro HO HZw0 HWf0 HWrO
  rw [wp_ret]
  imodintro
  iapply Hk $$ HBk6 HZx1 HXrO HXf1 HXqO HO HZw0 HWf0 HWrO

end Parts

end Cert.Mesh

end
-- ==== Proof.PartsW.lean ====
/-
# The kernel on one device: the blocks of `w`, and the products

The pieces of the body after the first ten: the blocks of `w` come in and are narrowed, the blocks of `x` sent by the other
devices arrive, and the products are added up, scaled, cut off below at zero and written out.
-/
module

public import proofs.«01_k».proof.Proof.PartsX

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result's pieces -/

/-- One block product, from zero. -/
def prod (a : FVec F S512x512 .fp8e5m2) (b : FVec F S512x2048 .fp8e5m2) : FVec F S512x2048 .f32 :=
  matmul dot_S512x512_S512x2048_S512x2048_1_0_0_1_n_n none a b (constant S512x2048 .f32 0x00000000#32)
/-- The product of the device's own block. -/
def own (c : Dev nD) : FVec F S512x2048 .f32 := prod (qx (xblk m c c)) (qw (wblk m c c))
/-- The product of the block from the device `r + 1` places before. -/
def term (c : Dev nD) (r : Fin 7) : FVec F S512x2048 .f32 := prod (qx (xblk m (dn r c) c)) (qw (wblk m c (dn r c)))
theorem own_eq (c : Dev nD) : prod (qx (xblk m c c)) (qw (wblk m c c)) = own m c := rfl
theorem term_eq (c : Dev nD) (r : Fin 7) : prod (qx (xblk m (dn r c) c)) (qw (wblk m c (dn r c))) = term m c r := rfl

section Pay

variable (A : FVec F S512x2048 .f32) (a a' : S512x512.Idx → Elt F .fp8e5m2) (b b' : S512x2048.Idx → Elt F .fp8e5m2)

/-- What the kernel's value operations make of loaded blocks, in terms of the slots' contents. -/
theorem pay24_box : k0_pay24 (boxX a : Vec F S1x512x512 .fp8e5m2) (boxW b : Vec F S1x512x2048 .fp8e5m2) = prod a b := by
  unfold k0_pay24 prod; simp only [cast_boxX a, cast_boxW b]
theorem pay25_box : k0_pay25 A (boxX a : Vec F S1x512x512 .fp8e5m2) (boxW b : Vec F S1x512x2048 .fp8e5m2) (boxX a' : Vec F S1x512x512 .fp8e5m2) (boxW b' : Vec F S1x512x2048 .fp8e5m2)
    = addf (addf A (prod a b)) (prod a' b') := by
  unfold k0_pay25 prod; simp only [cast_boxX a, cast_boxW b, cast_boxX a', cast_boxW b']
theorem pay26_box : k0_pay26 A (boxX a : Vec F S1x512x512 .fp8e5m2) (boxW b : Vec F S1x512x2048 .fp8e5m2) = addf A (prod a b) := by
  unfold k0_pay26 prod; simp only [cast_boxX a, cast_boxW b]
theorem pay27_box : k0_pay27 A (boxX a : Vec F S1x512x512 .fp8e5m2) (boxW b : Vec F S1x512x2048 .fp8e5m2) (boxX a' : Vec F S1x512x512 .fp8e5m2) (boxW b' : Vec F S1x512x2048 .fp8e5m2)
    = addf (addf A (prod a b)) (prod a' b') := by
  unfold k0_pay27 prod; simp only [cast_boxX a, cast_boxW b, cast_boxX a', cast_boxW b']
theorem pay28_box : k0_pay28 A (boxX a : Vec F S1x512x512 .fp8e5m2) (boxW b : Vec F S1x512x2048 .fp8e5m2) = addf A (prod a b) := by
  unfold k0_pay28 prod; simp only [cast_boxX a, cast_boxW b]
theorem pay29_box : k0_pay29 (boxX a : Vec F S1x512x512 .fp8e5m2) = a := by exact cast_boxX a _
theorem pay30_box : k0_pay30 (boxW b : Vec F S1x512x2048 .fp8e5m2) = b := by exact cast_boxW b _

end Pay

section Parts

variable (K : Dev nD × CI → ℕ) (c : Dev nD)

/-- Part 11. The device's own block of `w` is read and stored, the third is asked for; the second arrives and is read. -/
theorem part11 (v2 : BitVec 32) {Q : (Σ' (v316 : BitVec 32), FVec F S512x2048 .f32) → sProp (MT nD τ sig Unit (Elt F) ℕ UU ℕ)} :
    ⊢ iprop(know m K -∗ wfV m c 0 c -∗ junk c (wqS c) -∗ wRow m c (dn 1 c) -∗ zero c (.dma (wsS 0)) -∗ debt c (oR c 7) -∗ wFl m c 1 (dn 0 c)
      -∗ (∀ v316 : BitVec 32, wqV m c c -∗ wFl m c 0 (dn 1 c) -∗ debt c (oR c 7) -∗ zero c (.dma (wsS 1)) -∗ wRow m c (dn 0 c) -∗ wfV m c 1 (dn 0 c)
          -∗ Q ⟨v316, k0_pay14 (boxW (wblk m c (dn 0 c)))⟩)
      -∗ run c (k0_part11 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2) Q) := by
  rw [k0_part11_eq_skeleton]
  unfold k0_part11_skel run
  simp only [semSignalWord, semWaitWord, smemLoad, smemLoadElt, Prog.lift, Prog.bind_op, Prog.bind_ret, Prog.pure_eq_ret, wp_deviceId]
  iintro #HK HWf0 HWqO HWr1 HZw0 HO HFw1 Hk
  iapply (load_wf c 0 rfl) $$ HWf0
  iintro HWf0
  ihave HWqO := (junk_elim c _) $$ HWqO
  icases HWqO with ⟨%y1, HWqO⟩
  iapply (load_wq c c (k0_off9_eq c)) $$ HWqO
  iintro HWqO
  iapply (store_wq m c c (k0_off9_eq c) rfl) $$ HWqO
  iintro HWqO
  iapply (w_start m c 0 (dn 1 c) (k0_off3_eq c 1) rfl rfl) $$ HWr1 HWf0 HZw0
  iintro HFw0
  iapply (w_wait m K c 1 (dn 0 c) 7 rfl) $$ HK HO HFw1
  iintro HO HZw1 HWf1 HWr0
  iapply (load_wf c 1 rfl) $$ HWf1
  iintro HWf1
  rw [wp_ret]
  imodintro
  iapply Hk $$ HWqO HFw0 HO HZw1 HWr0 HWf1

/-- Part 12. A block of `w` is stored and another asked for; the next arrives and is read. -/
theorem part12 (v2 v316 : BitVec 32) {Q : (FVec F S512x2048 .fp8e5m2) → sProp (MT nD τ sig Unit (Elt F) ℕ UU ℕ)} :
    ⊢ iprop(know m K -∗ junk c (wqS (dn 0 c)) -∗ wfV m c 1 (dn 0 c) -∗ wRow m c (dn 2 c) -∗ zero c (.dma (wsS 1)) -∗ debt c (oR c 7)
      -∗ wFl m c 0 (dn 1 c)
      -∗ (wqV m c (dn 0 c) -∗ wFl m c 1 (dn 2 c) -∗ debt c (oR c 7) -∗ zero c (.dma (wsS 0)) -∗ wRow m c (dn 1 c) -∗ wfV m c 0 (dn 1 c)
          -∗ Q (k0_pay16 (boxW (wblk m c (dn 1 c)))))
      -∗ run c (k0_part12 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v316 (k0_pay14 (boxW (wblk m c (dn 0 c))))) Q) := by
  rw [k0_part12_eq_skeleton]
  unfold k0_part12_skel run
  simp only [semSignalWord, semWaitWord, smemLoad, smemLoadElt, Prog.lift, Prog.bind_op, Prog.bind_ret, Prog.pure_eq_ret, wp_deviceId]
  iintro #HK HWq0 HWf1 HWr2 HZw1 HO HFw0 Hk
  ihave HWq0 := (junk_elim c _) $$ HWq0
  icases HWq0 with ⟨%y1, HWq0⟩
  iapply (load_wq c (dn 0 c) (k0_off10_eq c 0)) $$ HWq0
  iintro HWq0
  iapply (store_wq m c (dn 0 c) (k0_off10_eq c 0) rfl) $$ HWq0
  iintro HWq0
  iapply (w_start m c 1 (dn 2 c) (k0_off3_eq c 2) rfl rfl) $$ HWr2 HWf1 HZw1
  iintro HFw1
  iapply (w_wait m K c 0 (dn 1 c) 7 rfl) $$ HK HO HFw0
  iintro HO HZw0 HWf0 HWr1
  iapply (load_wf c 0 rfl) $$ HWf0
  iintro HWf0
  rw [wp_ret]
  imodintro
  iapply Hk $$ HWq0 HFw1 HO HZw0 HWr1 HWf0

/-- Part 13. The same, one block further. -/
theorem part13 (v2 : BitVec 32) {Q : (FVec F S512x2048 .fp8e5m2) → sProp (MT nD τ sig Unit (Elt F) ℕ UU ℕ)} :
    ⊢ iprop(know m K -∗ junk c (wqS (dn 1 c)) -∗ wfV m c 0 (dn 1 c) -∗ wRow m c (dn 3 c) -∗ zero c (.dma (wsS 0)) -∗ debt c (oR c 7)
      -∗ wFl m c 1 (dn 2 c) -∗ junk c (wqS (dn 2 c))
      -∗ (wqV m c (dn 1 c) -∗ wFl m c 0 (dn 3 c) -∗ debt c (oR c 7) -∗ zero c (.dma (wsS 1)) -∗ wRow m c (dn 2 c) -∗ wfV m c 1 (dn 2 c)
          -∗ junk c (wqS (dn 2 c)) -∗ Q (k0_pay18 (boxW (wblk m c (dn 2 c)))))
      -∗ run c (k0_part13 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 (k0_pay16 (boxW (wblk m c (dn 1 c))))) Q) := by
  rw [k0_part13_eq_skeleton]
  unfold k0_part13_skel run
  simp only [semSignalWord, semWaitWord, smemLoad, smemLoadElt, Prog.lift, Prog.bind_op, Prog.bind_ret, Prog.pure_eq_ret, wp_deviceId]
  iintro #HK HWq1 HWf0 HWr3 HZw0 HO HFw1 HWq2 Hk
  ihave HWq1 := (junk_elim c _) $$ HWq1
  icases HWq1 with ⟨%y1, HWq1⟩
  iapply (load_wq c (dn 1 c) (k0_off10_eq c 1)) $$ HWq1
  iintro HWq1
  iapply (store_wq m c (dn 1 c) (k0_off10_eq c 1) rfl) $$ HWq1
  iintro HWq1
  iapply (w_start m c 0 (dn 3 c) (k0_off3_eq c 3) rfl rfl) $$ HWr3 HWf0 HZw0
  iintro HFw0
  iapply (w_wait m K c 1 (dn 2 c) 7 rfl) $$ HK HO HFw1
  iintro HO HZw1 HWf1 HWr2
  iapply (load_wf c 1 rfl) $$ HWf1
  iintro HWf1
  ihave HWq2 := (junk_elim c _) $$ HWq2
  icases HWq2 with ⟨%y2, HWq2⟩
  iapply (load_wq c (dn 2 c) (k0_off10_eq c 2)) $$ HWq2
  iintro HWq2
  ihave HWq2 := (junk_intro c _) $$ HWq2
  rw [wp_ret]
  imodintro
  iapply Hk $$ HWq1 HFw0 HO HZw1 HWr2 HWf1 HWq2

/-- Part 14. The same, and the block read is stored. -/
theorem part14 (v2 : BitVec 32) {Q : (BitVec 32) → sProp (MT nD τ sig Unit (Elt F) ℕ UU ℕ)} :
    ⊢ iprop(know m K -∗ junk c (wqS (dn 2 c)) -∗ wfV m c 1 (dn 2 c) -∗ wRow m c (dn 4 c) -∗ zero c (.dma (wsS 1)) -∗ debt c (oR c 7)
      -∗ wFl m c 0 (dn 3 c) -∗ junk c (wqS (dn 3 c))
      -∗ (wqV m c (dn 2 c) -∗ wFl m c 1 (dn 4 c) -∗ debt c (oR c 7) -∗ zero c (.dma (wsS 0)) -∗ wRow m c (dn 3 c) -∗ wfV m c 0 (dn 3 c)
          -∗ wqV m c (dn 3 c) -∗ Q (6#32))
      -∗ run c (k0_part14 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 (k0_pay18 (boxW (wblk m c (dn 2 c))))) Q) := by
  rw [k0_part14_eq_skeleton]
  unfold k0_part14_skel run
  simp only [semSignalWord, semWaitWord, smemLoad, smemLoadElt, Prog.lift, Prog.bind_op, Prog.bind_ret, Prog.pure_eq_ret, wp_deviceId]
  iintro #HK HWq2 HWf1 HWr4 HZw1 HO HFw0 HWq3 Hk
  ihave HWq2 := (junk_elim c _) $$ HWq2
  icases HWq2 with ⟨%y1, HWq2⟩
  iapply (store_wq m c (dn 2 c) (k0_off10_eq c 2) rfl) $$ HWq2
  iintro HWq2
  iapply (w_start m c 1 (dn 4 c) (k0_off3_eq c 4) rfl rfl) $$ HWr4 HWf1 HZw1
  iintro HFw1
  iapply (w_wait m K c 0 (dn 3 c) 7 rfl) $$ HK HO HFw0
  iintro HO HZw0 HWf0 HWr3
  iapply (load_wf c 0 rfl) $$ HWf0
  iintro HWf0
  ihave HWq3 := (junk_elim c _) $$ HWq3
  icases HWq3 with ⟨%y2, HWq3⟩
  iapply (load_wq c (dn 3 c) (k0_off10_eq c 3)) $$ HWq3
  iintro HWq3
  iapply (store_wq m c (dn 3 c) (k0_off10_eq c 3) rfl) $$ HWq3
  iintro HWq3
  rw [wp_ret]
  imodintro
  iapply Hk $$ HWq2 HFw1 HO HZw0 HWr3 HWf0 HWq3

/-- Part 15. A block of `w` is asked for; the one before it arrives, is read and stored. -/
theorem part15 (v2 c6 : BitVec 32) {Q : (BitVec 32) → sProp (MT nD τ sig Unit (Elt F) ℕ UU ℕ)} :
    ⊢ iprop(know m K -∗ wfV m c 0 (dn 3 c) -∗ wRow m c (dn 5 c) -∗ zero c (.dma (wsS 0)) -∗ debt c (oR c 7) -∗ wFl m c 1 (dn 4 c)
      -∗ junk c (wqS (dn 4 c))
      -∗ (∀ v437 : BitVec 32, wFl m c 0 (dn 5 c) -∗ debt c (oR c 7) -∗ zero c (.dma (wsS 1)) -∗ wRow m c (dn 4 c) -∗ wfV m c 1 (dn 4 c) -∗ wqV m c (dn 4 c)
          -∗ Q v437)
      -∗ run c (k0_part15 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 c6) Q) := by
  rw [k0_part15_eq_skeleton]
  unfold k0_part15_skel run
  simp only [semSignalWord, semWaitWord, smemLoad, smemLoadElt, Prog.lift, Prog.bind_op, Prog.bind_ret, Prog.pure_eq_ret, wp_deviceId]
  iintro #HK HWf0 HWr5 HZw0 HO HFw1 HWq4 Hk
  iapply (w_start m c 0 (dn 5 c) (k0_off3_eq c 5) rfl rfl) $$ HWr5 HWf0 HZw0
  iintro HFw0
  iapply (w_wait m K c 1 (dn 4 c) 7 rfl) $$ HK HO HFw1
  iintro HO HZw1 HWf1 HWr4
  iapply (load_wf c 1 rfl) $$ HWf1
  iintro HWf1
  ihave HWq4 := (junk_elim c _) $$ HWq4
  icases HWq4 with ⟨%y1, HWq4⟩
  iapply (load_wq c (dn 4 c) (k0_off10_eq c 4)) $$ HWq4
  iintro HWq4
  iapply (store_wq m c (dn 4 c) (k0_off10_eq c 4) rfl) $$ HWq4
  iintro HWq4
  rw [wp_ret]
  imodintro
  iapply Hk $$ HFw0 HO HZw1 HWr4 HWf1 HWq4

/-- Part 16. The same, one block further. -/
theorem part16 (v2 v437 : BitVec 32) {Q : (Σ' (v466 : BitVec 32), BitVec 32) → sProp (MT nD τ sig Unit (Elt F) ℕ UU ℕ)} :
    ⊢ iprop(know m K -∗ wfV m c 1 (dn 4 c) -∗ wRow m c (dn 6 c) -∗ zero c (.dma (wsS 1)) -∗ debt c (oR c 7) -∗ wFl m c 0 (dn 5 c)
      -∗ junk c (wqS (dn 5 c))
      -∗ (∀ v466 : BitVec 32, wFl m c 1 (dn 6 c) -∗ debt c (oR c 7) -∗ zero c (.dma (wsS 0)) -∗ wRow m c (dn 5 c) -∗ wfV m c 0 (dn 5 c) -∗ wqV m c (dn 5 c)
          -∗ Q ⟨v466, 512#32⟩)
      -∗ run c (k0_part16 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v437) Q) := by
  rw [k0_part16_eq_skeleton]
  unfold k0_part16_skel run
  simp only [semSignalWord, semWaitWord, smemLoad, smemLoadElt, Prog.lift, Prog.bind_op, Prog.bind_ret, Prog.pure_eq_ret, wp_deviceId]
  iintro #HK HWf1 HWr6 HZw1 HO HFw0 HWq5 Hk
  iapply (w_start m c 1 (dn 6 c) (k0_off3_eq c 6) rfl rfl) $$ HWr6 HWf1 HZw1
  iintro HFw1
  iapply (w_wait m K c 0 (dn 5 c) 7 rfl) $$ HK HO HFw0
  iintro HO HZw0 HWf0 HWr5
  iapply (load_wf c 0 rfl) $$ HWf0
  iintro HWf0
  ihave HWq5 := (junk_elim c _) $$ HWq5
  icases HWq5 with ⟨%y1, HWq5⟩
  iapply (load_wq c (dn 5 c) (k0_off10_eq c 5)) $$ HWq5
  iintro HWq5
  iapply (store_wq m c (dn 5 c) (k0_off10_eq c 5) rfl) $$ HWq5
  iintro HWq5
  rw [wp_ret]
  imodintro
  iapply Hk $$ HFw1 HO HZw0 HWr5 HWf0 HWq5

/-- Part 17. The last block of `w` arrives, is read and stored; the device's own product. -/
theorem part17 (v2 v466 c512 : BitVec 32) {Q : (Σ' (v489 : FVec F S512x2048 .f32), BitVec 32) → sProp (MT nD τ sig Unit (Elt F) ℕ UU ℕ)} :
    ⊢ iprop(know m K -∗ debt c (oR c 7) -∗ wFl m c 1 (dn 6 c) -∗ junk c (wqS (dn 6 c)) -∗ xqV m c c -∗ wqV m c c
      -∗ (∀ v492 : BitVec 32, debt c (oR c 7) -∗ zero c (.dma (wsS 1)) -∗ wRow m c (dn 6 c) -∗ wfV m c 1 (dn 6 c) -∗ wqV m c (dn 6 c) -∗ xqV m c c -∗ wqV m c c
          -∗ Q ⟨own m c, v492⟩)
      -∗ run c (k0_part17 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 v466 c512) Q) := by
  rw [k0_part17_eq_skeleton]
  unfold k0_part17_skel run
  simp only [semSignalWord, semWaitWord, smemLoad, smemLoadElt, Prog.lift, Prog.bind_op, Prog.bind_ret, Prog.pure_eq_ret, wp_deviceId]
  iintro #HK HO HFw1 HWq6 HXqO HWqO Hk
  iapply (w_wait m K c 1 (dn 6 c) 7 rfl) $$ HK HO HFw1
  iintro HO HZw1 HWf1 HWr6
  iapply (load_wf c 1 rfl) $$ HWf1
  iintro HWf1
  ihave HWq6 := (junk_elim c _) $$ HWq6
  icases HWq6 with ⟨%y1, HWq6⟩
  iapply (load_wq c (dn 6 c) (k0_off10_eq c 6)) $$ HWq6
  iintro HWq6
  iapply (store_wq m c (dn 6 c) (k0_off10_eq c 6) rfl) $$ HWq6
  iintro HWq6
  iapply (load_xq c c (k0_off8_eq c)) $$ HXqO
  iintro HXqO
  iapply (load_wq c c (k0_off9_eq c)) $$ HWqO
  iintro HWqO
  rw [pay24_box, own_eq]
  rw [wp_ret]
  imodintro
  iapply Hk $$ HO HZw1 HWr6 HWf1 HWq6 HXqO HWqO

/-- Part 18. The first two blocks from other devices arrive; their products are added. -/
theorem part18 (A : FVec F S512x2048 .f32) (v2 v492 : BitVec 32) {Q : (Σ' (v527 : FVec F S512x2048 .f32) (v528 : BitVec 32), BitVec 32) → sProp (MT nD τ sig Unit (Elt F) ℕ UU ℕ)} :
    ⊢ iprop(know m K -∗ debt c (oR c 7) -∗ recvR c 0 -∗ wqV m c (dn 0 c) -∗ recvR c 1 -∗ wqV m c (dn 1 c)
      -∗ (∀ v528 : BitVec 32, zero c (.dma (recvS 0)) -∗ bufV m c 0 -∗ wqV m c (dn 0 c) -∗ debt c (oR c 7) -∗ zero c (.dma (recvS 1)) -∗ bufV m c 1
          -∗ wqV m c (dn 1 c) -∗ Q ⟨addf (addf A (term m c 0)) (term m c 1), v528, 8#32⟩)
      -∗ run c (k0_part18 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 A v492) Q) := by
  rw [k0_part18_eq_skeleton]
  unfold k0_part18_skel run
  simp only [semSignalWord, semWaitWord, smemLoad, smemLoadElt, Prog.lift, Prog.bind_op, Prog.bind_ret, Prog.pure_eq_ret, wp_deviceId]
  iintro #HK HO HRc0 HWq0 HRc1 HWq1 Hk
  iapply (recv_step m K c 0 rfl) $$ HK HO HRc0
  iintro HO Hzr0 HBf0
  iapply (load_buf c (dn 0 c) (k0_off12_eq c 0)) $$ HBf0
  iintro HBf0
  iapply (load_wq c (dn 0 c) (k0_off10_eq c 0)) $$ HWq0
  iintro HWq0
  iapply (recv_step m K c 1 rfl) $$ HK HO HRc1
  iintro HO Hzr1 HBf1
  iapply (load_buf c (dn 1 c) (k0_off12_eq c 1)) $$ HBf1
  iintro HBf1
  iapply (load_wq c (dn 1 c) (k0_off10_eq c 1)) $$ HWq1
  iintro HWq1
  rw [pay25_box, term_eq, term_eq]
  rw [wp_ret]
  imodintro
  iapply Hk $$ Hzr0 HBf0 HWq0 HO Hzr1 HBf1 HWq1

/-- Part 19. The third block arrives and its product is added; the fourth arrives. -/
theorem part19 (A : FVec F S512x2048 .f32) (v2 v528 c8 : BitVec 32) {Q : (Σ' (v546 : FVec F S512x2048 .f32), BitVec 32) → sProp (MT nD τ sig Unit (Elt F) ℕ UU ℕ)} :
    ⊢ iprop(know m K -∗ debt c (oR c 7) -∗ recvR c 2 -∗ wqV m c (dn 2 c) -∗ recvR c 3
      -∗ (∀ v549 : BitVec 32, zero c (.dma (recvS 2)) -∗ bufV m c 2 -∗ wqV m c (dn 2 c) -∗ debt c (oR c 7) -∗ zero c (.dma (recvS 3)) -∗ bufV m c 3
          -∗ Q ⟨addf A (term m c 2), v549⟩)
      -∗ run c (k0_part19 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 A v528 c8) Q) := by
  rw [k0_part19_eq_skeleton]
  unfold k0_part19_skel run
  simp only [semSignalWord, semWaitWord, smemLoad, smemLoadElt, Prog.lift, Prog.bind_op, Prog.bind_ret, Prog.pure_eq_ret, wp_deviceId]
  iintro #HK HO HRc2 HWq2 HRc3 Hk
  iapply (recv_step m K c 2 rfl) $$ HK HO HRc2
  iintro HO Hzr2 HBf2
  iapply (load_buf c (dn 2 c) (k0_off12_eq c 2)) $$ HBf2
  iintro HBf2
  iapply (load_wq c (dn 2 c) (k0_off10_eq c 2)) $$ HWq2
  iintro HWq2
  iapply (recv_step m K c 3 rfl) $$ HK HO HRc3
  iintro HO Hzr3 HBf3
  rw [pay26_box, term_eq]
  rw [wp_ret]
  imodintro
  iapply Hk $$ Hzr2 HBf2 HWq2 HO Hzr3 HBf3

/-- Part 20. The fourth block's product is added; the fifth arrives and its product is added. -/
theorem part20 (A : FVec F S512x2048 .f32) (v2 v549 : BitVec 32) {Q : (Σ' (v584 : FVec F S512x2048 .f32) (v587 : BitVec 32) (v588 : BitVec 32), BitVec 32) → sProp (MT nD τ sig Unit (Elt F) ℕ UU ℕ)} :
    ⊢ iprop(know m K -∗ bufV m c 3 -∗ wqV m c (dn 3 c) -∗ debt c (oR c 7) -∗ recvR c 4 -∗ wqV m c (dn 4 c)
      -∗ (∀ v587 : BitVec 32, ∀ v588 : BitVec 32, bufV m c 3 -∗ wqV m c (dn 3 c) -∗ debt c (oR c 7) -∗ zero c (.dma (recvS 4)) -∗ bufV m c 4 -∗ wqV m c (dn 4 c)
          -∗ Q ⟨addf (addf A (term m c 3)) (term m c 4), v587, v588, 0#32⟩)
      -∗ run c (k0_part20 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 A v549) Q) := by
  rw [k0_part20_eq_skeleton]
  unfold k0_part20_skel run
  simp only [semSignalWord, semWaitWord, smemLoad, smemLoadElt, Prog.lift, Prog.bind_op, Prog.bind_ret, Prog.pure_eq_ret, wp_deviceId]
  iintro #HK HBf3 HWq3 HO HRc4 HWq4 Hk
  iapply (load_buf c (dn 3 c) (k0_off12_eq c 3)) $$ HBf3
  iintro HBf3
  iapply (load_wq c (dn 3 c) (k0_off10_eq c 3)) $$ HWq3
  iintro HWq3
  iapply (recv_step m K c 4 rfl) $$ HK HO HRc4
  iintro HO Hzr4 HBf4
  iapply (load_buf c (dn 4 c) (k0_off12_eq c 4)) $$ HBf4
  iintro HBf4
  iapply (load_wq c (dn 4 c) (k0_off10_eq c 4)) $$ HWq4
  iintro HWq4
  rw [pay27_box, term_eq, term_eq]
  rw [wp_ret]
  imodintro
  iapply Hk $$ HBf3 HWq3 HO Hzr4 HBf4 HWq4

/-- Part 21. The sixth block arrives and its product is added; the seventh arrives and is read. -/
theorem part21 (A : FVec F S512x2048 .f32) (v2 v587 v588 c0 : BitVec 32) {Q : (Σ' (v603 : FVec F S512x2048 .f32) (v617 : FVec F S512x512 .fp8e5m2) (v620 : FVec F S512x2048 .fp8e5m2), FVec F S512x2048 .f32) → sProp (MT nD τ sig Unit (Elt F) ℕ UU ℕ)} :
    ⊢ iprop(know m K -∗ debt c (oR c 7) -∗ recvR c 5 -∗ wqV m c (dn 5 c) -∗ recvR c 6 -∗ wqV m c (dn 6 c)
      -∗ (zero c (.dma (recvS 5)) -∗ bufV m c 5 -∗ wqV m c (dn 5 c) -∗ debt c (oR c 7) -∗ zero c (.dma (recvS 6)) -∗ bufV m c 6
          -∗ wqV m c (dn 6 c) -∗ Q ⟨addf A (term m c 5), qx (xblk m (dn 6 c) c), qw (wblk m c (dn 6 c)), constant S512x2048 .f32 0x00000000#32⟩)
      -∗ run c (k0_part21 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c v2 A v587 v588 c0) Q) := by
  rw [k0_part21_eq_skeleton]
  unfold k0_part21_skel run
  simp only [semSignalWord, semWaitWord, smemLoad, smemLoadElt, Prog.lift, Prog.bind_op, Prog.bind_ret, Prog.pure_eq_ret, wp_deviceId]
  iintro #HK HO HRc5 HWq5 HRc6 HWq6 Hk
  iapply (recv_step m K c 5 rfl) $$ HK HO HRc5
  iintro HO Hzr5 HBf5
  iapply (load_buf c (dn 5 c) (k0_off12_eq c 5)) $$ HBf5
  iintro HBf5
  iapply (load_wq c (dn 5 c) (k0_off10_eq c 5)) $$ HWq5
  iintro HWq5
  iapply (recv_step m K c 6 rfl) $$ HK HO HRc6
  iintro HO Hzr6 HBf6
  iapply (load_buf c (dn 6 c) (k0_off12_eq c 6)) $$ HBf6
  iintro HBf6
  iapply (load_wq c (dn 6 c) (k0_off10_eq c 6)) $$ HWq6
  iintro HWq6
  rw [pay28_box, pay29_box, pay30_box, term_eq]
  rw [wp_ret]
  imodintro
  iapply Hk $$ Hzr5 HBf5 HWq5 HO Hzr6 HBf6 HWq6

/-- Part 22. The result: the last product added, scaled, cut off below at zero, stored and copied out; the first two transfers have left. -/
theorem part22 (A : FVec F S512x2048 .f32) (a : FVec F S512x512 .fp8e5m2) (b : FVec F S512x2048 .fp8e5m2) (z : FVec F S512x2048 .f32) {sx sw : S1.Idx → Elt F .f32} {Q : (PUnit) → sProp (MT nD τ sig Unit (Elt F) ℕ UU ℕ)} :
    ⊢ iprop(know m K -∗ ((c : Thread nD τ).loc cc0_stg0_0 ↦{fullShare} sx) -∗ ((c : Thread nD τ).loc cc0_stg1_0 ↦{fullShare} sw) -∗ junk c voM
      -∗ junk c oM -∗ zero c (.dma osS) -∗ debt c (oR c 7) -∗ backR c 0 -∗ backR c 1
      -∗ (((c : Thread nD τ).loc cc0_stg0_0 ↦{fullShare} sx) -∗ ((c : Thread nD τ).loc cc0_stg1_0 ↦{fullShare} sw) -∗ zero c (.dma osS)
          -∗ owns (c : Thread nD τ) oM fullShare (k0_pay31 A a b z (sx one1) (sw one1))
          -∗ owns (c : Thread nD τ) voM fullShare (k0_pay31 A a b z (sx one1) (sw one1)) -∗ zero c (.dma (sendS 0)) -∗ junk c (xqS (up 0 c))
          -∗ debt c (oR c 7) -∗ zero c (.dma (sendS 1)) -∗ junk c (xqS (up 1 c)) -∗ Q ⟨⟩)
      -∗ run c (k0_part22 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10 c A a b z) Q) := by
  rw [k0_part22_eq_skeleton]
  unfold k0_part22_skel run
  simp only [semSignalWord, semWaitWord, smemLoad, smemLoadElt, Prog.lift, Prog.bind_op, Prog.bind_ret, Prog.pure_eq_ret, wp_deviceId]
  iintro #HK HSx HSw HVo HOm HZo HO HBk0 HBk1 Hk
  iapply (load_sx c) $$ HSx
  iintro HSx
  iapply (load_sw c) $$ HSw
  iintro HSw
  ihave HVo := (junk_elim c _) $$ HVo
  icases HVo with ⟨%y1, HVo⟩
  iapply (load_vo c) $$ HVo
  iintro HVo
  iapply (store_vo c) $$ HVo
  iintro HVo
  ihave HOm := (junk_elim c _) $$ HOm
  icases HOm with ⟨%y2, HOm⟩
  iapply (o_start c rfl) $$ HVo HOm HZo
  iintro HFo
  iapply (o_wait m K c 7 rfl) $$ HK HO HFo
  iintro HO HZo HOm HVo
  iapply (back_step m K c 0 rfl) $$ HK HO HBk0
  iintro HO Hzs0 HXq0
  iapply (back_step m K c 1 rfl) $$ HK HO HBk1
  iintro HO Hzs1 HXq1
  rw [wp_ret]
  imodintro
  iapply Hk $$ HSx HSw HZo HOm HVo Hzs0 HXq0 HO Hzs1 HXq1

end Parts

end Cert.Mesh

end
-- ==== Proof.Body.lean ====
/-
# The kernel on one device, whole

The pieces joined, and what the whole takes and leaves stated with one separating conjunction for each family of
slots, rows and cells.
-/
module

public import proofs.«01_k».proof.Proof.PartsW

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families written out -/

/-- A separating conjunction over the devices: one device, and the seven after it; -/
theorem eight_up (c : Dev nD) (P : Dev nD → sProp (MT nD τ sig Unit (Elt F) ℕ UU ℕ)) :
    bigSep Finset.univ P = iprop(P c ∗ P (up 0 c) ∗ P (up 1 c) ∗ P (up 2 c) ∗ P (up 3 c) ∗ P (up 4 c) ∗ P (up 5 c) ∗ P (up 6 c)) :=
  bigSep_univ_eq_bigSepL (I := Dev nD) [c, up 0 c, up 1 c, up 2 c, up 3 c, up 4 c, up 5 c, up 6 c] (by revert c; decide) (by revert c; decide) P
/-- or the seven before it. -/
theorem eight_dn (c : Dev nD) (P : Dev nD → sProp (MT nD τ sig Unit (Elt F) ℕ UU ℕ)) :
    bigSep Finset.univ P = iprop(P c ∗ P (dn 0 c) ∗ P (dn 1 c) ∗ P (dn 2 c) ∗ P (dn 3 c) ∗ P (dn 4 c) ∗ P (dn 5 c) ∗ P (dn 6 c)) :=
  bigSep_univ_eq_bigSepL (I := Dev nD) [c, dn 0 c, dn 1 c, dn 2 c, dn 3 c, dn 4 c, dn 5 c, dn 6 c] (by revert c; decide) (by revert c; decide) P
/-- A separating conjunction over the devices: one device, and the rest by shift. -/
theorem split_dn (c : Dev nD) (P : Dev nD → sProp (MT nD τ sig Unit (Elt F) ℕ UU ℕ)) :
    bigSep Finset.univ P = iprop(P c ∗ bigSep Finset.univ fun r : Fin 7 => P (dn r c)) := by
  rw [eight_dn c, seven]

/-- Gathering: the members one by one make the family. -/
theorem seven_in (P : Fin 7 → sProp (MT nD τ sig Unit (Elt F) ℕ UU ℕ)) :
    ⊢ iprop(P 0 -∗ P 1 -∗ P 2 -∗ P 3 -∗ P 4 -∗ P 5 -∗ P 6 -∗ bigSep Finset.univ P) := by
  rw [seven]
  iintro H0 H1 H2 H3 H4 H5 H6
  isplitl [H0]; · iexact H0
  isplitl [H1]; · iexact H1
  isplitl [H2]; · iexact H2
  isplitl [H3]; · iexact H3
  isplitl [H4]; · iexact H4
  isplitl [H5]; · iexact H5
  iexact H6
theorem split_up (c : Dev nD) (P : Dev nD → sProp (MT nD τ sig Unit (Elt F) ℕ UU ℕ)) :
    bigSep Finset.univ P = iprop(P c ∗ bigSep Finset.univ fun r : Fin 7 => P (up r c)) := by
  rw [eight_up c, seven]
theorem up_in (c : Dev nD) (P : Dev nD → sProp (MT nD τ sig Unit (Elt F) ℕ UU ℕ)) :
    ⊢ iprop(P c -∗ P (up 0 c) -∗ P (up 1 c) -∗ P (up 2 c) -∗ P (up 3 c) -∗ P (up 4 c) -∗ P (up 5 c) -∗ P (up 6 c) -∗ bigSep Finset.univ P) := by
  rw [split_up c]
  iintro H H0 H1 H2 H3 H4 H5 H6
  isplitl [H]; · iexact H
  iapply (seven_in fun r : Fin 7 => P (up r c)) $$ H0 H1 H2 H3 H4 H5 H6
theorem dn_in (c : Dev nD) (P : Dev nD → sProp (MT nD τ sig Unit (Elt F) ℕ UU ℕ)) :
    ⊢ iprop(P c -∗ P (dn 0 c) -∗ P (dn 1 c) -∗ P (dn 2 c) -∗ P (dn 3 c) -∗ P (dn 4 c) -∗ P (dn 5 c) -∗ P (dn 6 c) -∗ bigSep Finset.univ P) := by
  rw [split_dn c]
  iintro H H0 H1 H2 H3 H4 H5 H6
  isplitl [H]; · iexact H
  iapply (seven_in fun r : Fin 7 => P (dn r c)) $$ H0 H1 H2 H3 H4 H5 H6
theorem two (P : Fin 2 → sProp (MT nD τ sig Unit (Elt F) ℕ UU ℕ)) : bigSep Finset.univ P = iprop(P 0 ∗ P 1) :=
  bigSep_univ_eq_bigSepL (I := Fin 2) [0, 1] (by decide) (by decide) P
theorem two_in (P : Fin 2 → sProp (MT nD τ sig Unit (Elt F) ℕ UU ℕ)) : ⊢ iprop(P 0 -∗ P 1 -∗ bigSep Finset.univ P) := by
  rw [two]
  iintro H0 H1
  isplitl [H0]; · iexact H0
  iexact H1

/-! ## What the body takes and leaves -/

/-- The slots the device works in, at any contents: of the narrowed blocks and of the staging buffers. -/
def slots (c : Dev nD) : sProp 𝕄 :=
  iprop((bigSep Finset.univ fun p : Dev nD => junk c (xqS p)) ∗ (bigSep Finset.univ fun p : Dev nD => junk c (wqS p))
    ∗ (bigSep Finset.univ fun i : Fin 2 => junk c (xfS i)) ∗ (bigSep Finset.univ fun i : Fin 2 => junk c (wfS i)))
/-- The blocks of the two operands in the device's memory. -/
def rows (c : Dev nD) : sProp 𝕄 := iprop((bigSep Finset.univ fun p : Dev nD => xRow m c p) ∗ (bigSep Finset.univ fun p : Dev nD => wRow m c p))
/-- The semaphores of the device's own copies, at zero. -/
def copySems (c : Dev nD) : sProp 𝕄 :=
  iprop((bigSep Finset.univ fun i : Fin 2 => zero c (.dma (xsS i))) ∗ (bigSep Finset.univ fun i : Fin 2 => zero c (.dma (wsS i))) ∗ zero c (.dma osS))
/-- The device's part in the handshake: what its signals, its barrier wait, its transfers and its waits for arrivals take. -/
def shakes (c : Dev nD) : sProp 𝕄 :=
  iprop(barR c ∗ (bigSep Finset.univ fun r : Fin 7 => sigR c r) ∗ (bigSep Finset.univ fun r : Fin 7 => sendR c r) ∗ (bigSep Finset.univ fun r : Fin 7 => recvR c r))
/-- The handshake's semaphores of the device, at zero. -/
def shakeSems (c : Dev nD) : sProp 𝕄 :=
  iprop(zero c (.reg barS) ∗ (bigSep Finset.univ fun r : Fin 7 => zero c (.dma (sendS r))) ∗ (bigSep Finset.univ fun r : Fin 7 => zero c (.dma (recvS r))))
/-- The two scales, staged. -/
def scales (c : Dev nD) (sx sw : S1.Idx → Elt F .f32) : sProp 𝕄 :=
  iprop(((c : Thread nD τ).loc cc0_stg0_0 ↦{fullShare} sx) ∗ ((c : Thread nD τ).loc cc0_stg1_0 ↦{fullShare} sw))

/-- The products of the blocks added up, in the order the kernel adds them, without the last. -/
def partialSum (c : Dev nD) : FVec F S512x2048 .f32 :=
  addf (addf (addf (addf (addf (addf (own m c) (term m c 0)) (term m c 1)) (term m c 2)) (term m c 3)) (term m c 4)) (term m c 5)
/-- The result of device `c`. -/
def outV (c : Dev nD) (sx sw : S1.Idx → Elt F .f32) : S512x2048.Idx → Elt F .f32 :=
  k0_pay31 (partialSum m c) (qx (xblk m (dn 6 c) c)) (qw (wblk m c (dn 6 c))) (constant S512x2048 .f32 0x00000000#32) (sx one1) (sw one1)

section Whole

variable (K : Dev nD × CI → ℕ) (c : Dev nD)

set_option maxHeartbeats 4000000 in
/-- The first part of the body: all but the last two waits. -/
theorem most_run {sx sw : S1.Idx → Elt F .f32} {Q : Dev nD → sProp (MT nD τ sig Unit (Elt F) ℕ UU ℕ)} :
    ⊢ iprop(know m K -∗ debt c (oB c 0) -∗ shakes c -∗ slots c -∗ rows m c -∗ copySems c -∗ junk c voM -∗ junk c oM -∗ scales c sx sw
      -∗ (debt c (oR c 7) -∗ zero c (.reg barS) -∗ zero c (.dma (sendS 0)) -∗ zero c (.dma (sendS 1)) -∗ zero c (.dma (sendS 2)) -∗ zero c (.dma (sendS 3)) -∗ zero c (.dma (sendS 4))
          -∗ backR c 5 -∗ backR c 6 -∗ (junk c (xqS (up 5 c)) -∗ junk c (xqS (up 6 c)) -∗ slots c) -∗ (bigSep Finset.univ fun r : Fin 7 => zero c (.dma (recvS r)))
          -∗ (bigSep Finset.univ fun r : Fin 7 => junk c (bufS (dn r c))) -∗ rows m c -∗ copySems c
          -∗ owns (c : Thread nD τ) voM fullShare (outV m c sx sw) -∗ owns (c : Thread nD τ) oM fullShare (outV m c sx sw) -∗ scales c sx sw -∗ Q c)
      -∗ run c (k0_part23 xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10) Q) := by
  rw [k0_part23_eq_skeleton]
  unfold k0_part23_skel run shakes slots rows copySems scales
  simp only [Prog.lift, Prog.pure_eq_ret, wp_bind]
  iintro #HK HO ⟨HBar, HSg, HSn, HRc⟩ ⟨HXq, HWq, HXf, HWf⟩ ⟨HXr, HWr⟩ ⟨HZx, HZw, HZo⟩ HVo HOm ⟨HSx, HSw⟩ Hk
  ihave HSg := (Entails.of_eq (seven (fun r : Fin 7 => sigR c r))) $$ HSg
  icases HSg with ⟨HSg0, HSg1, HSg2, HSg3, HSg4, HSg5, HSg6⟩
  ihave HSn := (Entails.of_eq (seven (fun r : Fin 7 => sendR c r))) $$ HSn
  icases HSn with ⟨HSn0, HSn1, HSn2, HSn3, HSn4, HSn5, HSn6⟩
  ihave HRc := (Entails.of_eq (seven (fun r : Fin 7 => recvR c r))) $$ HRc
  icases HRc with ⟨HRc0, HRc1, HRc2, HRc3, HRc4, HRc5, HRc6⟩
  ihave HXq := (Entails.of_eq (eight_up c (fun p : Dev nD => junk c (xqS p)))) $$ HXq
  icases HXq with ⟨HXqO, HXq0, HXq1, HXq2, HXq3, HXq4, HXq5, HXq6⟩
  ihave HWq := (Entails.of_eq (eight_dn c (fun p : Dev nD => junk c (wqS p)))) $$ HWq
  icases HWq with ⟨HWqO, HWq0, HWq1, HWq2, HWq3, HWq4, HWq5, HWq6⟩
  ihave HXr := (Entails.of_eq (eight_up c (fun p : Dev nD => xRow m c p))) $$ HXr
  icases HXr with ⟨HXrO, HXr0, HXr1, HXr2, HXr3, HXr4, HXr5, HXr6⟩
  ihave HWr := (Entails.of_eq (eight_dn c (fun p : Dev nD => wRow m c p))) $$ HWr
  icases HWr with ⟨HWrO, HWr0, HWr1, HWr2, HWr3, HWr4, HWr5, HWr6⟩
  ihave HXf := (Entails.of_eq (two (fun i : Fin 2 => junk c (xfS i)))) $$ HXf
  icases HXf with ⟨HXf0, HXf1⟩
  ihave HWf := (Entails.of_eq (two (fun i : Fin 2 => junk c (wfS i)))) $$ HWf
  icases HWf with ⟨HWf0, HWf1⟩
  ihave HZx := (Entails.of_eq (two (fun i : Fin 2 => zero c (.dma (xsS i))))) $$ HZx
  icases HZx with ⟨HZx0, HZx1⟩
  ihave HZw := (Entails.of_eq (two (fun i : Fin 2 => zero c (.dma (wsS i))))) $$ HZw
  icases HZw with ⟨HZw0, HZw1⟩
  iapply (part1 m K c) $$ HK HO HSg0 HSg1 HSg2 HSg3 HSg4
  iintro %_v2 %_v24 HO
  iapply (part2 m K c _ _ _) $$ HK HO HSg5 HSg6 HXf0 HXr0 HZx0
  iintro %_v33 %_v35 %_v37 %_v39 %_v41 %_v43 %_v45 HO HFx0
  iapply (part3 m K c _ _) $$ HK HXf1 HXr1 HZx1 HWf0 HWrO HZw0 HWf1 HWr0 HZw1 HO HFx0
  iintro HFx1 HFw0 HFw1 HO HZx0 HXr0 HXf0
  iapply (part4 m K c _ _ _) $$ HK HXq0 HXf0 HXr2 HZx0 HO HBar HSn0 HFx1
  iintro HFx0 Hzb HBs1 HBs2 HBs3 HBs4 HBs5 HBs6 HBk0 HO HZx1 HXf1 HXr1
  iapply (part5 m K c _ _ _) $$ HK HXf1 HXq1 HXr3 HZx1 HO HSn1 HBs1 HFx0
  iintro HFx1 HBk1 HO HZx0 HXr2 HXf0
  iapply (part6 m K c _ _ _) $$ HK HXq2 HXf0 HXr4 HZx0 HO HSn2 HBs2 HFx1
  iintro HFx0 HBk2 HO HZx1 HXr3 HXf1
  iapply (part7 m K c _ _ _) $$ HK HXq3 HXf1 HXr5 HZx1 HO HSn3 HBs3 HFx0
  iintro HFx1 HBk3 HO HZx0 HXr4 HXf0
  iapply (part8 m K c _ _ _) $$ HK HXq4 HXf0 HXr6 HZx0 HO HSn4 HBs4 HFx1 HXq5
  iintro HFx0 HBk4 HO HZx1 HXr5 HXf1 HXq5
  iapply (part9 m K c _ _ _) $$ HK HXq5 HXf1 HXrO HZx1 HO HSn5 HBs5 HFx0 HXq6
  iintro HFx1 HBk5 HO HZx0 HXr6 HXf0 HXq6
  iapply (part10 m K c _ _) $$ HK HO HSn6 HXq6 HBs6 HFx1 HXqO HFw0
  iintro HBk6 HZx1 HXrO HXf1 HXqO HO HZw0 HWf0 HWrO
  iapply (part11 m K c _) $$ HK HWf0 HWqO HWr1 HZw0 HO HFw1
  iintro %_v316 HWqO HFw0 HO HZw1 HWr0 HWf1
  iapply (part12 m K c _ _) $$ HK HWq0 HWf1 HWr2 HZw1 HO HFw0
  iintro HWq0 HFw1 HO HZw0 HWr1 HWf0
  iapply (part13 m K c _) $$ HK HWq1 HWf0 HWr3 HZw0 HO HFw1 HWq2
  iintro HWq1 HFw0 HO HZw1 HWr2 HWf1 HWq2
  iapply (part14 m K c _) $$ HK HWq2 HWf1 HWr4 HZw1 HO HFw0 HWq3
  iintro HWq2 HFw1 HO HZw0 HWr3 HWf0 HWq3
  iapply (part15 m K c _ _) $$ HK HWf0 HWr5 HZw0 HO HFw1 HWq4
  iintro %_v437 HFw0 HO HZw1 HWr4 HWf1 HWq4
  iapply (part16 m K c _ _) $$ HK HWf1 HWr6 HZw1 HO HFw0 HWq5
  iintro %_v466 HFw1 HO HZw0 HWr5 HWf0 HWq5
  iapply (part17 m K c _ _ _) $$ HK HO HFw1 HWq6 HXqO HWqO
  iintro %_v492 HO HZw1 HWr6 HWf1 HWq6 HXqO HWqO
  iapply (part18 m K c _ _ _) $$ HK HO HRc0 HWq0 HRc1 HWq1
  iintro %_v528 Hzr0 HBf0 HWq0 HO Hzr1 HBf1 HWq1
  iapply (part19 m K c _ _ _ _) $$ HK HO HRc2 HWq2 HRc3
  iintro %_v549 Hzr2 HBf2 HWq2 HO Hzr3 HBf3
  iapply (part20 m K c _ _ _) $$ HK HBf3 HWq3 HO HRc4 HWq4
  iintro %_v587 %_v588 HBf3 HWq3 HO Hzr4 HBf4 HWq4
  iapply (part21 m K c _ _ _ _ _) $$ HK HO HRc5 HWq5 HRc6 HWq6
  iintro Hzr5 HBf5 HWq5 HO Hzr6 HBf6 HWq6
  iapply (part22 m K c _ _ _ _) $$ HK HSx HSw HVo HOm HZo HO HBk0 HBk1
  iintro HSx HSw HZo HOm HVo Hzs0 HXq0 HO Hzs1 HXq1
  iapply (back_step m K c 2 rfl) $$ HK HO HBk2
  iintro HO Hzs2 HXq2
  rw [wp_ret]
  imodintro
  iapply (back_step m K c 3 rfl) $$ HK HO HBk3
  iintro HO Hzs3 HXq3
  rw [wp_ret]
  imodintro
  iapply (back_step m K c 4 rfl) $$ HK HO HBk4
  iintro HO Hzs4 HXq4
  rw [wp_ret]
  imodintro
  rw [wp_ret]
  imodintro
  ihave HWqO := (junk_intro c _) $$ HWqO
  ihave HWq0 := (junk_intro c _) $$ HWq0
  ihave HWq1 := (junk_intro c _) $$ HWq1
  ihave HWq2 := (junk_intro c _) $$ HWq2
  ihave HWq3 := (junk_intro c _) $$ HWq3
  ihave HWq4 := (junk_intro c _) $$ HWq4
  ihave HWq5 := (junk_intro c _) $$ HWq5
  ihave HWq6 := (junk_intro c _) $$ HWq6
  ihave HXqO := (junk_intro c _) $$ HXqO
  ihave HXf0 := (junk_intro c _) $$ HXf0
  ihave HXf1 := (junk_intro c _) $$ HXf1
  ihave HWf0 := (junk_intro c _) $$ HWf0
  ihave HWf1 := (junk_intro c _) $$ HWf1
  ihave HBf0 := (junk_intro c _) $$ HBf0
  ihave HBf1 := (junk_intro c _) $$ HBf1
  ihave HBf2 := (junk_intro c _) $$ HBf2
  ihave HBf3 := (junk_intro c _) $$ HBf3
  ihave HBf4 := (junk_intro c _) $$ HBf4
  ihave HBf5 := (junk_intro c _) $$ HBf5
  ihave HBf6 := (junk_intro c _) $$ HBf6
  ihave Hzr := (seven_in fun r : Fin 7 => zero c (.dma (recvS r))) $$ Hzr0 Hzr1 Hzr2 Hzr3 Hzr4 Hzr5 Hzr6
  ihave HBf := (seven_in fun r : Fin 7 => junk c (bufS (dn r c))) $$ HBf0 HBf1 HBf2 HBf3 HBf4 HBf5 HBf6
  ihave HXr := (up_in c fun p : Dev nD => xRow m c p) $$ HXrO HXr0 HXr1 HXr2 HXr3 HXr4 HXr5 HXr6
  ihave HWr := (dn_in c fun p : Dev nD => wRow m c p) $$ HWrO HWr0 HWr1 HWr2 HWr3 HWr4 HWr5 HWr6
  ihave HWq := (dn_in c fun p : Dev nD => junk c (wqS p)) $$ HWqO HWq0 HWq1 HWq2 HWq3 HWq4 HWq5 HWq6
  ihave HXf := (two_in fun i : Fin 2 => junk c (xfS i)) $$ HXf0 HXf1
  ihave HWf := (two_in fun i : Fin 2 => junk c (wfS i)) $$ HWf0 HWf1
  ihave HZx := (two_in fun i : Fin 2 => zero c (.dma (xsS i))) $$ HZx0 HZx1
  ihave HZw := (two_in fun i : Fin 2 => zero c (.dma (wsS i))) $$ HZw0 HZw1
  iapply Hk $$ HO Hzb Hzs0 Hzs1 Hzs2 Hzs3 Hzs4 HBk5 HBk6 [HXqO HXq0 HXq1 HXq2 HXq3 HXq4 HWq HXf HWf] Hzr HBf [HXr HWr] [HZx HZw HZo] [HVo] [HOm] [HSx HSw]
  · iintro HXq5 HXq6
    ihave HXq := (up_in c fun p : Dev nD => junk c (xqS p)) $$ HXqO HXq0 HXq1 HXq2 HXq3 HXq4 HXq5 HXq6
    isplitl [HXq]; · iexact HXq
    isplitl [HWq]; · iexact HWq
    isplitl [HXf]; · iexact HXf
    iexact HWf
  · isplitl [HXr]; · iexact HXr
    iexact HWr
  · isplitl [HZx]; · iexact HZx
    isplitl [HZw]; · iexact HZw
    iexact HZo
  · iexact HVo
  · iexact HOm
  · isplitl [HSx]; · iexact HSx
    iexact HSw

/-- The whole body. -/
theorem body_run {sx sw : S1.Idx → Elt F .f32} {Q : PUnit → sProp (MT nD τ sig Unit (Elt F) ℕ UU ℕ)} :
    ⊢ iprop(know m K -∗ debt c (oB c 0) -∗ shakes c -∗ slots c -∗ rows m c -∗ copySems c -∗ junk c voM -∗ junk c oM -∗ scales c sx sw
      -∗ (debt c (oR c 7) -∗ shakeSems c -∗ slots c -∗ (bigSep Finset.univ fun r : Fin 7 => junk c (bufS (dn r c))) -∗ rows m c -∗ copySems c
          -∗ owns (c : Thread nD τ) voM fullShare (outV m c sx sw) -∗ owns (c : Thread nD τ) oM fullShare (outV m c sx sw) -∗ scales c sx sw -∗ Q ⟨⟩)
      -∗ run c (cc0_body xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10) Q) := by
  rw [cc0_body_eq_skeleton]
  unfold cc0_body_skel
  simp only [run, Prog.lift, Prog.pure_eq_ret, wp_bind]
  iintro #HK HO HS Hs Hr Hc HVo HOm Hsc Hk
  iapply (most_run m K c) $$ HK HO HS Hs Hr Hc HVo HOm Hsc
  iintro HO Hzb Hzs0 Hzs1 Hzs2 Hzs3 Hzs4 HBk5 HBk6 Hs Hzr HBf Hr Hc HVo HOm Hsc
  iapply (back_step m K c 5 rfl) $$ HK HO HBk5
  iintro HO Hzs5 HXq5
  rw [wp_ret]
  imodintro
  iapply (back_step m K c 6 rfl) $$ HK HO HBk6
  iintro HO Hzs6 HXq6
  rw [wp_ret]
  imodintro
  rw [wp_ret]
  imodintro
  ihave Hs := Hs $$ HXq5 HXq6
  ihave Hzs := (seven_in fun r : Fin 7 => zero c (.dma (sendS r))) $$ Hzs0 Hzs1 Hzs2 Hzs3 Hzs4 Hzs5 Hzs6
  iapply Hk $$ HO [Hzb Hzs Hzr] Hs HBf Hr Hc HVo HOm Hsc
  unfold shakeSems
  isplitl [Hzb]; · iexact Hzb
  isplitl [Hzs]; · iexact Hzs
  iexact Hzr

end Whole

end Cert.Mesh

end
-- ==== Proof.Split.lean ====
/-
# Buffers and their slots

A buffer owned whole is its slots owned one by one, for each of the kernel's buffers that it works on slot by slot: the
scratch buffers, at any contents, and the two operands, at the contents they hold.
-/
module

public import proofs.«01_k».proof.Proof.Body

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families of slabs -/

/-- Slabs in increasing order along one axis are disjoint. -/
theorem slabs_disjoint {s : Shape} {n : ℕ} (off : Fin n → Fin s.rank → ℕ) (size : Fin s.rank → ℕ) (inb : ∀ p a, off p a + size a ≤ s.size a)
    (a : Fin s.rank) (h : ∀ p q : Fin n, p.val < q.val → off p a + size a ≤ off q a) (p q : Fin n) (hpq : p ≠ q) :
    Disjoint (Rect.unit (s := s) (off p) size (inb p)).set (Rect.unit (s := s) (off q) size (inb q)).set :=
  Rect.unit_disjoint a (by
    rcases lt_trichotomy p.val q.val with hl | hl | hl
    · exact .inl (h p q hl)
    · exact absurd (Fin.ext hl) hpq
    · exact .inr (h q p hl))

/-- Slabs that hold every index between them cover. -/
theorem slabs_cover {s : Shape} {n : ℕ} (off : Fin n → Fin s.rank → ℕ) (size : Fin s.rank → ℕ) (inb : ∀ p a, off p a + size a ≤ s.size a)
    (h : ∀ i : s.Idx, ∃ p, ∀ a, off p a ≤ (i a).val ∧ (i a).val < off p a + size a) :
    (Finset.univ : Finset (Fin n)).biUnion (fun p => (Rect.unit (s := s) (off p) size (inb p)).set) = Finset.univ :=
  Finset.eq_univ_of_forall fun i => by
    obtain ⟨p, hp⟩ := h i
    exact Finset.mem_biUnion.mpr ⟨p, Finset.mem_univ _, Rect.mem_set_unit.mpr hp⟩

/-- The unit slabs along the first of three axes; -/
theorem slots_held {n A B : ℕ} (i : (⟨3, ![n, A, B]⟩ : Shape).Idx) :
    ∃ p : Fin n, ∀ a, (![p.val, 0, 0] : Fin 3 → ℕ) a ≤ (i a).val ∧ (i a).val < (![p.val, 0, 0] : Fin 3 → ℕ) a + (![1, A, B] : Fin 3 → ℕ) a :=
  ⟨⟨(i 0).val, (i 0).isLt⟩, fun a => by
    match a with
    | 0 => exact ⟨le_refl _, Nat.lt_succ_self _⟩
    | 1 => exact ⟨Nat.zero_le _, lt_of_lt_of_eq (i 1).isLt (Nat.zero_add _).symm⟩
    | 2 => exact ⟨Nat.zero_le _, lt_of_lt_of_eq (i 2).isLt (Nat.zero_add _).symm⟩⟩
theorem slots_order {n : ℕ} (A B : ℕ) (p q : Fin n) (h : p.val < q.val) :
    (![p.val, 0, 0] : Fin 3 → ℕ) 0 + (![1, A, B] : Fin 3 → ℕ) 0 ≤ (![q.val, 0, 0] : Fin 3 → ℕ) 0 := h
/-- the slabs of 512 rows. -/
theorem rows_held {n B R : ℕ} (hR : R = 512 * n) (i : (⟨2, ![R, B]⟩ : Shape).Idx) :
    ∃ p : Fin n, ∀ a, (![512 * p.val, 0] : Fin 2 → ℕ) a ≤ (i a).val ∧ (i a).val < (![512 * p.val, 0] : Fin 2 → ℕ) a + (![512, B] : Fin 2 → ℕ) a := by
  have h0 : (i 0).val < R := (i 0).isLt
  refine ⟨⟨(i 0).val / 512, by omega⟩, fun a => ?_⟩
  match a with
  | 0 =>
    show 512 * ((i 0).val / 512) ≤ (i 0).val ∧ (i 0).val < 512 * ((i 0).val / 512) + 512
    omega
  | 1 => exact ⟨Nat.zero_le _, lt_of_lt_of_eq (i 1).isLt (Nat.zero_add _).symm⟩
theorem rows_order {n : ℕ} (B : ℕ) (p q : Fin n) (h : p.val < q.val) :
    (![512 * p.val, 0] : Fin 2 → ℕ) 0 + (![512, B] : Fin 2 → ℕ) 0 ≤ (![512 * q.val, 0] : Fin 2 → ℕ) 0 := by
  show 512 * p.val + 512 ≤ 512 * q.val; omega

/-! ## A memref at any contents, and its slots -/

section Junk

variable (c : Dev nD) {sp : Space} {sh s' : Shape} {e : EltTy} (mm : Memref sig .tc sp sh e) {T : Type} [Fintype T] [DecidableEq T] (r : T → Rect sh)
  (hr : ∀ t a, (r t).stride a = 1) (hq : ∀ t, (r t).shape.Squeezes s')
  (hd : ∀ t t', t ≠ t' → Disjoint (r t).set (r t').set) (hcov : (Finset.univ : Finset T).biUnion (fun t => (r t).set) = Finset.univ)
include hd hcov

theorem junk_split :
    (junk c mm : sProp 𝕄) ⊢ bigSep Finset.univ fun t => junk c ((mm.slice (r t) (hr t)).squeeze s' (hq t)) := by
  unfold junk
  refine Laws.exists_elim fun X => (owns_rects (c : Thread nD τ) mm fullShare r hr hd hcov X).trans (bigSep_mono fun t _ => ?_)
  show (BIBase.Entails (PROP := sProp 𝕄) _ _)
  iintro H
  iexists relay (hq t).numel_eq (fun j => X ((r t).emb j))
  rw [owns_squeeze, relay_relay]
  iexact H

theorem junk_join :
    (bigSep Finset.univ fun t => junk c ((mm.slice (r t) (hr t)).squeeze s' (hq t)) : sProp 𝕄) ⊢ junk c mm := by
  unfold junk
  refine (bigSep_exists_pi Finset.univ fun t (v : s'.Idx → Elt F e) => (owns (c : Thread nD τ) ((mm.slice (r t) (hr t)).squeeze s' (hq t)) fullShare v : sProp 𝕄)).trans ?_
  refine Laws.exists_elim fun v => .trans ?_ (Laws.exists_intro (Rect.glue r hcov fun t => relay (hq t).numel_eq.symm (v t)))
  refine .trans (bigSep_mono fun t _ => ?_) (owns_of_rects (c : Thread nD τ) mm fullShare r hr hd hcov _)
  rw [owns_squeeze]
  exact BIBase.Entails.of_eq (PROP := sProp 𝕄) (congrArg _ (funext fun j => (Rect.glue_emb r hcov hd (fun t => relay (hq t).numel_eq.symm (v t)) t j).symm))

end Junk

/-! ## The kernel's buffers -/

section Buffers

variable (c : Dev nD)

theorem xq_slots : (junk c xqM : sProp 𝕄) = bigSep Finset.univ fun p : Dev nD => junk c (xqS p) :=
  BI.equiv_iff.mp ⟨junk_split c xqM _ _ _ (slabs_disjoint _ _ inb8 0 (slots_order 512 512)) (slabs_cover _ _ inb8 slots_held),
    junk_join c xqM _ _ _ (slabs_disjoint _ _ inb8 0 (slots_order 512 512)) (slabs_cover _ _ inb8 slots_held)⟩
theorem buf_slots : (junk c bufM : sProp 𝕄) = bigSep Finset.univ fun p : Dev nD => junk c (bufS p) :=
  BI.equiv_iff.mp ⟨junk_split c bufM _ _ _ (slabs_disjoint _ _ inb8 0 (slots_order 512 512)) (slabs_cover _ _ inb8 slots_held),
    junk_join c bufM _ _ _ (slabs_disjoint _ _ inb8 0 (slots_order 512 512)) (slabs_cover _ _ inb8 slots_held)⟩
theorem wq_slots : (junk c wqM : sProp 𝕄) = bigSep Finset.univ fun p : Dev nD => junk c (wqS p) :=
  BI.equiv_iff.mp ⟨junk_split c wqM _ _ _ (slabs_disjoint _ _ inb8w 0 (slots_order 512 2048)) (slabs_cover _ _ inb8w slots_held),
    junk_join c wqM _ _ _ (slabs_disjoint _ _ inb8w 0 (slots_order 512 2048)) (slabs_cover _ _ inb8w slots_held)⟩
theorem xf_slots : (junk c xfM : sProp 𝕄) = bigSep Finset.univ fun i : Fin 2 => junk c (xfS i) :=
  BI.equiv_iff.mp ⟨junk_split c xfM _ _ _ (slabs_disjoint _ _ inb2 0 (slots_order 512 512)) (slabs_cover _ _ inb2 slots_held),
    junk_join c xfM _ _ _ (slabs_disjoint _ _ inb2 0 (slots_order 512 512)) (slabs_cover _ _ inb2 slots_held)⟩
theorem wf_slots : (junk c wfM : sProp 𝕄) = bigSep Finset.univ fun i : Fin 2 => junk c (wfS i) :=
  BI.equiv_iff.mp ⟨junk_split c wfM _ _ _ (slabs_disjoint _ _ inb2w 0 (slots_order 512 2048)) (slabs_cover _ _ inb2w slots_held),
    junk_join c wfM _ _ _ (slabs_disjoint _ _ inb2w 0 (slots_order 512 2048)) (slabs_cover _ _ inb2w slots_held)⟩

/-- The two operands, whole, are their blocks. -/
theorem x_rows : ((c : Thread nD τ).loc main_arg0 ↦{fullShare} m ((c : Thread nD τ).loc main_arg0) : sProp 𝕄) = bigSep Finset.univ fun p : Dev nD => xRow m c p := by
  rw [← owns_whole (c : Thread nD τ) main_arg0 fullShare]
  exact BI.equiv_iff.mp ⟨owns_rects (c : Thread nD τ) xM fullShare _ _ (slabs_disjoint _ _ inbx 0 (rows_order 512)) (slabs_cover _ _ inbx (rows_held rfl)) _,
    owns_of_rects (c : Thread nD τ) xM fullShare _ _ (slabs_disjoint _ _ inbx 0 (rows_order 512)) (slabs_cover _ _ inbx (rows_held rfl)) _⟩
theorem w_rows : ((c : Thread nD τ).loc main_arg1 ↦{fullShare} m ((c : Thread nD τ).loc main_arg1) : sProp 𝕄) = bigSep Finset.univ fun p : Dev nD => wRow m c p := by
  rw [← owns_whole (c : Thread nD τ) main_arg1 fullShare]
  exact BI.equiv_iff.mp ⟨owns_rects (c : Thread nD τ) wM fullShare _ _ (slabs_disjoint _ _ inbw 0 (rows_order 2048)) (slabs_cover _ _ inbw (rows_held rfl)) _,
    owns_of_rects (c : Thread nD τ) wM fullShare _ _ (slabs_disjoint _ _ inbw 0 (rows_order 2048)) (slabs_cover _ _ inbw (rows_held rfl)) _⟩

/-- A whole buffer at some contents. -/
theorem junk_whole (b : Ref sig .tc) :
    (junk c (Memref.whole b) : sProp 𝕄) = iprop(∃ f : Buf (Elt F) ((c : Thread nD τ).loc b), ((c : Thread nD τ).loc b) ↦{fullShare} f) := by
  unfold junk
  simp only [owns_whole]

end Buffers

end Cert.Mesh

end
-- ==== Proof.Ghost.lean ====
/-
# What the launch deals

Before any device runs, the semaphores of all of them, the rights to signal them and the places at them are dealt out: each
cell of the handshake gets its invariant, each device the rights it pays with — to the barrier and receive cells of the
devices after it — and the credit of what it is going to be paid.
-/
module

public import proofs.«01_k».proof.Proof.Split

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families -/

/-- The kinds of cell: the barrier; the senders' and the receivers' cells by shift. -/
def kinds : (Fin 7 ⊕ Fin 7) ⊕ PUnit.{1} ≃ CI :=
  ((Equiv.boolProdEquivSum (Fin 7)).sumCongr (Equiv.refl PUnit.{1})).symm.trans (Equiv.optionEquivSumPUnit.{0, 0} (Bool × Fin 7)).symm

/-- A family over the kinds of cell, kind by kind. -/
theorem over_kinds (P : CI → sProp (MT nD τ sig Unit (Elt F) ℕ UU ℕ)) :
    bigSep Finset.univ P = iprop(((bigSep Finset.univ fun r : Fin 7 => P (some (false, r))) ∗ (bigSep Finset.univ fun r : Fin 7 => P (some (true, r)))) ∗ P none) := by
  rw [bigSep_univ_equiv kinds, bigSep_univ_sum, bigSep_univ_sum, bigSep_univ_of_subsingleton PUnit.unit]
  rfl

/-- Device and shift, the device taken that many places on. -/
def turns : Dev nD × Fin 7 ≃ Dev nD × Fin 7 where
  toFun x := (up x.2 x.1, x.2)
  invFun x := (dn x.2 x.1, x.2)
  left_inv x := Prod.ext (dn_up x.2 x.1) rfl
  right_inv x := Prod.ext (up_dn x.2 x.1) rfl

/-- A family over devices and shifts is the same family dealt around the ring. -/
theorem around (P : Dev nD → Fin 7 → sProp (MT nD τ sig Unit (Elt F) ℕ UU ℕ)) :
    (bigSep Finset.univ fun c : Dev nD => bigSep Finset.univ fun r : Fin 7 => P c r)
      = bigSep Finset.univ fun c : Dev nD => bigSep Finset.univ fun r : Fin 7 => P (up r c) r := by
  rw [← bigSep_univ_prod (fun x : Dev nD × Fin 7 => P x.1 x.2), bigSep_univ_equiv turns, bigSep_univ_prod]
  rfl

/-- A persistent fact goes to every member of a family. -/
theorem each_with {I : Type} [DecidableEq I] {S : Finset I} {R : sProp (MT nD τ sig Unit (Elt F) ℕ UU ℕ)} [BI.Persistent R]
    {P Q : I → sProp (MT nD τ sig Unit (Elt F) ℕ UU ℕ)} (h : ∀ i ∈ S, iprop(R ∗ P i) ⊢ Q i) : iprop(R ∗ bigSep S P) ⊢ bigSep S Q :=
  (sep_mono_left (BI.bigSep_of_persistent S R)).trans (by rw [← bigSep_sep']; exact bigSep_mono h)

/-! ## Semaphores -/

/-- The device's own semaphores: the senders' and the receivers' of the handshake, and those of its own copies. -/
abbrev OI : Type := (Fin 7 ⊕ Fin 7) ⊕ ((Fin 2 ⊕ Fin 2) ⊕ Unit)
def osem : OI → SemLoc sig
  | .inl (.inl r) => .dma (sendS r)
  | .inl (.inr r) => .dma (recvS r)
  | .inr (.inl (.inl i)) => .dma (xsS i)
  | .inr (.inl (.inr i)) => .dma (wsS i)
  | .inr (.inr _) => .dma osS

theorem ownSemFacts : Pipeline.OwnSemFacts cfg0.spec osem := by decide +kernel

theorem ownSems_eq (c : Dev nD) : (Pipeline.ownSems0 (Ix := Unit) (Name := ℕ) (U := UU) (Lvl := ℕ) (Val := Elt F) (τ := τ) osem c : sProp 𝕄)
    = iprop(((bigSep Finset.univ fun r : Fin 7 => zero c (.dma (sendS r))) ∗ (bigSep Finset.univ fun r : Fin 7 => zero c (.dma (recvS r))))
      ∗ ((bigSep Finset.univ fun i : Fin 2 => zero c (.dma (xsS i))) ∗ (bigSep Finset.univ fun i : Fin 2 => zero c (.dma (wsS i)))) ∗ zero c (.dma osS)) := by
  unfold Pipeline.ownSems0
  rw [bigSep_univ_sum, bigSep_univ_sum, bigSep_univ_sum, bigSep_univ_sum, bigSep_univ_of_subsingleton ()]
  rfl
theorem freeSems_eq (c : Dev nD) : (unscopedSems0 c : sProp 𝕄) = zero c (.reg barS) := by
  unfold unscopedSems0; rw [bigSep_eq_bigSepL_of_eq [SemLoc.reg barS] (by decide) (by decide)]; rfl

/-- All the device's semaphores, sorted; -/
theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ copySems c) : sProp 𝕄) := by
  rw [ownSems_eq, freeSems_eq, over_kinds]
  unfold copySems
  iintro ⟨⟨⟨HS, HR⟩, ⟨HX, HW⟩, HO⟩, HB⟩
  isplitl [HS HR HB]
  · isplitl [HS HR]
    · isplitl [HS]; · iexact HS
      iexact HR
    iexact HB
  isplitl [HX]; · iexact HX
  isplitl [HW]; · iexact HW
  iexact HO
/-- and put back. -/
theorem sems_out (c : Dev nD) :
    iprop(shakeSems c ∗ copySems c)
      ⊢ (iprop(unscopedSems0 c ∗ Pipeline.ownSems0 (Ix := Unit) (Name := ℕ) (U := UU) (Lvl := ℕ) (Val := Elt F) (τ := τ) osem c) : sProp 𝕄) := by
  rw [ownSems_eq, freeSems_eq]
  unfold shakeSems copySems
  iintro ⟨⟨HB, HS, HR⟩, HX, HW, HO⟩
  isplitl [HB]; · iexact HB
  isplitl [HS HR]
  · isplitl [HS]; · iexact HS
    iexact HR
  isplitl [HX HW]
  · isplitl [HX]; · iexact HX
    iexact HW
  iexact HO

/-! ## The handshake's ghost state -/

/-- The cells of the handshake, -/
def shakeCells : Finset (GSem nD τ sig) := Finset.univ.map ⟨kcell, kcell_injective⟩
/-- and the rights at them: seven at a barrier cell, one at each other. -/
abbrev tokOf (x : Dev nD × (Fin 7 ⊕ (Bool × Fin 7))) : GSem nD τ sig × ℕ × Fin 7 := match x.2 with
  | .inl r => (kcell (x.1, none), 0, r)
  | .inr k => (kcell (x.1, some k), 0, 0)
theorem tokOf_injective : Function.Injective tokOf := by
  rintro ⟨c, a⟩ ⟨c', a'⟩ h
  rcases a with r | k <;> rcases a' with r' | k'
  · have h1 := kcell_injective (congrArg (fun y : GSem nD τ sig × ℕ × Fin 7 => y.1) h)
    have h2 : r = r' := congrArg (fun y : GSem nD τ sig × ℕ × Fin 7 => y.2.2) h
    rw [show c = c' from congrArg Prod.fst h1, h2]
  · exact absurd (congrArg Prod.snd (kcell_injective (congrArg (fun y : GSem nD τ sig × ℕ × Fin 7 => y.1) h))) (by simp)
  · exact absurd (congrArg Prod.snd (kcell_injective (congrArg (fun y : GSem nD τ sig × ℕ × Fin 7 => y.1) h))) (by simp)
  · have h1 := kcell_injective (congrArg (fun y : GSem nD τ sig × ℕ × Fin 7 => y.1) h)
    rw [show c = c' from congrArg Prod.fst h1, show k = k' from Option.some.inj (congrArg Prod.snd h1)]
def shakeToks : Finset (GSem nD τ sig × ℕ × Fin 7) := Finset.univ.map ⟨tokOf, tokOf_injective⟩

/-- The element the launch starts the ghost state from. -/
def u₀ : UU := (initOf (Pipeline.cells cfgs cellOf_inj) (Pipeline.launchToks cfgs cellOf_inj), (initOf shakeCells shakeToks, 1))

/-- It splits into the windows' part and the handshake's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The rights at device `c`'s own cells. -/
def toks (c : Dev nD) : sProp 𝕄 :=
  iprop((bigSep Finset.univ fun r : Fin 7 => dutyTok ER (barCell c) 0 r)
    ∗ (bigSep Finset.univ fun r : Fin 7 => dutyTok ER (sendCell c r) 0 0) ∗ (bigSep Finset.univ fun r : Fin 7 => dutyTok ER (recvCell c r) 0 0))
/-- The rights device `c` pays with. -/
def payToks (c : Dev nD) : sProp 𝕄 :=
  iprop((bigSep Finset.univ fun r : Fin 7 => dutyTok ER (barCell (up r c)) 0 r)
    ∗ (bigSep Finset.univ fun r : Fin 7 => dutyTok ER (sendCell c r) 0 0) ∗ (bigSep Finset.univ fun r : Fin 7 => dutyTok ER (recvCell (up r c) r) 0 0))
theorem toks_around : (bigSep Finset.univ fun c : Dev nD => (toks c : sProp 𝕄)) = bigSep Finset.univ fun c : Dev nD => payToks c := by
  unfold toks payToks
  rw [bigSep_sep', bigSep_sep', bigSep_sep', bigSep_sep', around (fun c r => dutyTok ER (barCell c) 0 r), around (fun c r => dutyTok ER (recvCell c r) 0 0)]

/-- What the launch element deals device `c`; -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)
/-- what no other device shares of it, once the rights went round; -/
def own1 (c : Dev nD) : sProp 𝕄 := iprop((bigSep Finset.univ fun k : CI => atPos ER (kcell (c, k)) 0 ∅ 0) ∗ copySems c ∗ payToks c)
/-- the invariants of all cells, and that all are in their first round; -/
def known (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)
instance known_persistent (K : Dev nD × CI → ℕ) : BI.Persistent (known (F := F) m K) := by unfold known; infer_instance
/-- what device `c` has in the end. -/
def G' (c : Dev nD) : sProp 𝕄 := iprop((∃ K, known m K) ∗ own1 c)

theorem fund_shake : BI.own (ER (initOf shakeCells shakeToks)) ⊢ (|==> bigSep Finset.univ (G m) : sProp 𝕄) := by
  have hX (Φ : GSem nD τ sig → sProp 𝕄) : bigSep shakeCells Φ = bigSep Finset.univ fun c : Dev nD => bigSep Finset.univ fun k : CI => Φ (kcell (c, k)) := by
    unfold shakeCells; rw [bigSep_map, bigSep_univ_prod]; rfl
  have hT : bigSep shakeToks (fun x => (dutyTok ER x.1 x.2.1 x.2.2 : sProp 𝕄)) = bigSep Finset.univ fun c : Dev nD => toks c := by
    unfold shakeToks; rw [bigSep_map, bigSep_univ_prod]
    refine bigSep_congr fun c _ => ?_
    unfold toks
    rw [bigSep_univ_sum, bigSep_univ_equiv (Equiv.boolProdEquivSum (Fin 7)).symm, bigSep_univ_sum]
    rfl
  iintro HX
  imod (Rounds.fund ER (Rd m) shakeCells shakeToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Device `c`'s cells get their invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CI => reached ER (kcell (c, k)) 0) ∗ (bigSep Finset.univ fun k : CI => atPos ER (kcell (c, k)) 0 ∅ 0) ∗ copySems c ∗ toks c) := by
  unfold G
  rw [bigSep_sep']
  iintro ⟨Hos, Hus, Hst, ⟨Hat, Hr⟩, Htok⟩
  ihave Hv := (sems_in (F := F) c) $$ [Hos Hus]
  · isplitl [Hos] <;> iassumption
  icases Hv with ⟨Hv, Hc⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Hc]; · iexact Hc
  iexact Htok

/-- The invariants made known to all, the rights dealt around. -/
theorem regroup :
    (bigSep Finset.univ fun c : Dev nD => iprop((bigSep Finset.univ fun k => iprop(∃ κ : ℕ, cellInv ER (Rd m) κ (kcell (c, k))))
          ∗ (bigSep Finset.univ fun k : CI => reached ER (kcell (c, k)) 0) ∗ (bigSep Finset.univ fun k : CI => atPos ER (kcell (c, k)) 0 ∅ 0) ∗ copySems c ∗ toks c) : sProp 𝕄)
      ⊢ bigSep Finset.univ (G' m) := by
  rw [bigSep_sep', bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp 𝕄)), toks_around]
  iintro ⟨HI, #HR, Hat, Hc, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (each_with (R := known m K) (P := own1) fun c _ => show iprop(known m K ∗ own1 c) ⊢ G' m c from by
    unfold G'
    iintro ⟨#HK, H⟩
    isplitr
    · iexists K; iexact HK
    iexact H)
  isplitr
  · unfold known; isplitl; · iexact HI
    iexact HR
  · unfold own1
    rw [bigSep_sep', bigSep_sep']
    isplitl [Hat]; · iexact Hat
    isplitl [Hc]; · iexact Hc
    iexact Htok

/-- The step before any device runs. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## Credits -/

/-- What device `d` owes at the start, at the cell `y`. -/
theorem owed_at (d : Dev nD) (y : Dev nD × CI) :
    oB d 0 (kcell y) () = (∑ r : Fin 7, if y = (up r d, some (true, r)) then N else 0) + ∑ r : Fin 7, if y = (up r d, none) then 1 else 0 := by
  have h (z : Dev nD × CI) (n : ℕ) : (tallyAt (kcell z) () n : CellTallies nD τ sig Unit) (kcell y) () = if y = z then n else 0 := by
    rw [tallyAt_apply]
    exact if_congr ⟨fun h => kcell_injective h.1, fun h => ⟨congrArg kcell h, rfl⟩⟩ rfl rfl
  unfold oB oR
  rw [Pi.add_apply, Finsupp.add_apply, Finset.sum_apply, Finset.sum_apply, Finsupp.finset_sum_apply, Finsupp.finset_sum_apply]
  congr 1
  · exact Finset.sum_congr rfl fun r _ => by rw [if_pos (Nat.zero_le _)]; exact h (up r d, some (true, r)) N
  · exact Finset.sum_congr rfl fun r _ => by rw [if_pos (Nat.zero_le _)]; exact h (up r d, none) 1

theorem owed_bar (c : Dev nD) : ∑ d : Dev nD, oB d 0 (barCell c) () = 7 := by
  have h (d : Dev nD) : oB d 0 (barCell c) () = ∑ r : Fin 7, if c = up r d then 1 else 0 := by
    refine (owed_at d (c, none)).trans ?_
    rw [Finset.sum_eq_zero fun r _ => if_neg fun h => by simp at h, Nat.zero_add]
    exact Finset.sum_congr rfl fun r _ => if_congr (by simp) rfl rfl
  rw [Finset.sum_congr rfl fun d _ => h d]
  clear h; revert c; decide +kernel
theorem owed_recv (c : Dev nD) (s : Fin 7) : ∑ d : Dev nD, oB d 0 (recvCell c s) () = N := by
  have h (d : Dev nD) : oB d 0 (recvCell c s) () = if d = dn s c then N else 0 := by
    refine (owed_at d (c, some (true, s))).trans ?_
    rw [Finset.sum_eq_zero (f := fun r : Fin 7 => if ((c, some (true, s)) : Dev nD × CI) = (up r d, none) then 1 else 0) fun r _ => if_neg fun h => by simp at h, Nat.add_zero,
      Finset.sum_eq_single s (fun r _ hr => if_neg fun h => hr (by simpa using (congrArg Prod.snd h).symm)) (fun h => absurd (Finset.mem_univ _) h)]
    exact if_congr ⟨fun h => by rw [show c = up s d from congrArg Prod.fst h, dn_up], fun h => by rw [h, up_dn]⟩ rfl rfl
  rw [Finset.sum_congr rfl fun d _ => h d, Finset.sum_ite_eq' Finset.univ (dn s c) fun _ => N, if_pos (Finset.mem_univ _)]

/-- The launch's credit at a cell is what all devices owe it. -/
theorem launch_at (c : Dev nD) (sm : SemLoc sig) (n : ℕ) (h : ∑ d : Dev nD, oB d 0 ((c : Thread nD τ), sm) () = n) :
    tallyOn ((c : Thread nD τ), sm) (launchCredit (Pipeline.owing fun d => oB d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem creds (c : Dev nD) :
    (Pipeline.launchCred (fun d => oB d 0) c : sProp 𝕄)
      ⊢ iprop(cred (tallyAt (barCell c) () 7) ∗ bigSep Finset.univ fun r : Fin 7 => cred (tallyAt (recvCell c r) () N)) := by
  unfold Pipeline.launchCred
  refine (bigSep_subset (t := Finset.univ.map ⟨csem, csem_injective⟩) (Finset.subset_univ _)).trans ?_
  rw [bigSep_map, over_kinds, ← launch_at c (.reg barS) 7 (owed_bar c),
    bigSep_congr fun (r : Fin 7) _ => congrArg cred (launch_at c (.dma (recvS r)) N (owed_recv c r)).symm]
  show (BIBase.Entails (PROP := sProp 𝕄) _ _)
  iintro ⟨⟨-, HR⟩, HB⟩
  isplitl [HB]; · iexact HB
  iexact HR

end Cert.Mesh

end
-- ==== Proof.Launch.lean ====
/-
# The kernel on all devices

The launch: every device starts from its memory, its semaphores and its part of the handshake, and ends with its block of
the result; so the whole program runs to the end, leaves its arguments as they were, its result at `outV` and every
semaphore at zero.
-/
module

public import proofs.«01_k».proof.Proof.Ghost
public import Idealize.ShloMosaic.Lib.Pipeline.CollectiveSegs

@[expose] public section

noncomputable section

namespace Cert.Mesh

open Cert.KernelIdeal Cert.KernelIdeal.Gen Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- The two scales. -/
def scaleX (c : Dev nD) : S1.Idx → Elt F .f32 := iblk m c 0 t0_0
def scaleW (c : Dev nD) : S1.Idx → Elt F .f32 := iblk m c 1 t0_0

/-- A device's part in the handshake and its arrays, before the run. -/
def start (c : Dev nD) : sProp 𝕄 :=
  iprop((∃ K, know m K) ∗ own1 c ∗ (cred (tallyAt (barCell c) () 7) ∗ bigSep Finset.univ fun r : Fin 7 => cred (tallyAt (recvCell c r) () N))
    ∗ rows m c ∗ junk c oM)
/-- The scratch buffers. -/
def scratch (c : Dev nD) : sProp 𝕄 := iprop(slots c ∗ (bigSep Finset.univ fun p : Dev nD => junk c (bufS p)) ∗ junk c voM)
/-- The device before the body; -/
def Φ₀ (c : Dev nD) : sProp 𝕄 := iprop(start m c ∗ scratch c)
/-- and after it. -/
def Φ₁ (c : Dev nD) : sProp 𝕄 :=
  iprop((shakeSems c ∗ copySems c) ∗ (rows m c ∗ owns (c : Thread nD τ) oM fullShare (outV m c (scaleX m c) (scaleW m c))) ∗ scratch c)

def dats (_ : Fin 1) (c : Dev nD) : Dat τ (Elt F) Unit ℕ UU ℕ cfg0 c where
  A w := m ((cfg0.win w).arr.view.loc (c : Thread nD τ))
  after w _ := match w with
    | ⟨0, _⟩ => scaleX m c
    | ⟨1, _⟩ => scaleW m c
  Φ t := match t with
    | ⟨0, _⟩ => Φ₀ m c
    | ⟨_ + 1, _⟩ => Φ₁ m c
  q _ := fullShare
  owed t := match t with
    | ⟨0, _⟩ => oB c 0
    | ⟨_ + 1, _⟩ => 0

theorem before_x (c : Dev nD) (d) : (dats (F := F) m 0 c).before 0 t0_0 d = scaleX m c :=
  ((dats (F := F) m 0 c).before_in_eq_fetched 0 rfl (fun _ => rfl) (fun _ _ _ => rfl) (fun t => by rw [fin_N0 t]; rfl) t0_0 d).trans rfl
theorem before_w (c : Dev nD) (d) : (dats (F := F) m 0 c).before 1 t0_0 d = scaleW m c :=
  ((dats (F := F) m 0 c).before_in_eq_fetched 1 rfl (fun _ => rfl) (fun _ _ _ => rfl) (fun t => by rw [fin_N0 t]; rfl) t0_0 d).trans rfl

/-! ## The body -/

/-- A device's part in the handshake: the rights, the places and the credits, and the seven slots it hands over. -/
theorem shakes_in (c : Dev nD) :
    iprop(((bigSep Finset.univ fun k : CI => atPos ER (kcell (c, k)) 0 ∅ 0) ∗ payToks c)
        ∗ (cred (tallyAt (barCell c) () 7) ∗ bigSep Finset.univ fun r : Fin 7 => cred (tallyAt (recvCell c r) () N))
        ∗ bigSep Finset.univ fun r : Fin 7 => junk c (bufS (up r c)))
      ⊢ (shakes c : sProp 𝕄) := by
  unfold shakes payToks barR sigR sendR recvR
  rw [over_kinds]
  simp only [bigSep_sep']
  iintro ⟨⟨⟨⟨HaS, HaR⟩, HaB⟩, HtB, HtS, HtR⟩, ⟨HcB, HcR⟩, HJ⟩
  isplitl [HaB HcB]
  · isplitl [HaB]; · iexact HaB
    iexact HcB
  isplitl [HtB HJ]
  · isplitl [HtB]; · iexact HtB
    iexact HJ
  isplitl [HtS HtR HaS]
  · isplitl [HtS]; · iexact HtS
    isplitl [HtR]; · iexact HtR
    iexact HaS
  isplitl [HcR]; · iexact HcR
  iexact HaR

set_option maxRecDepth 4000 in
def bodyPre (c : Dev nD) : sProp 𝕄 :=
  iprop(Φ₀ m c ∗ (dats m 0 c).owesAt () t0_0.castSucc
    ∗ (∃ d, owns (c : Thread nD τ) (Memref.whole cc0_stg0_0) fullShare ((dats m 0 c).before 0 t0_0 d))
    ∗ (∃ d, owns (c : Thread nD τ) (Memref.whole cc0_stg1_0) fullShare ((dats m 0 c).before 1 t0_0 d)))
set_option maxRecDepth 4000 in
def bodyPost (c : Dev nD) : sProp 𝕄 :=
  iprop(Φ₁ m c ∗ (dats m 0 c).owesAt () t0_0.succ
    ∗ owns (c : Thread nD τ) (Memref.whole cc0_stg0_0) fullShare (scaleX m c) ∗ owns (c : Thread nD τ) (Memref.whole cc0_stg1_0) fullShare (scaleW m c))

theorem sound_body (c : Dev nD) :
    bodyPre m c ⊢ run c (cc0_body xM (Memref.isWhole_whole _) wM (Memref.isWhole_whole _) sxM (Memref.isWhole_whole _) swM (Memref.isWhole_whole _) oM (Memref.isWhole_whole _) xfM (Memref.isWhole_whole _) xqM (Memref.isWhole_whole _) bufM (Memref.isWhole_whole _) wfM (Memref.isWhole_whole _) wqM (Memref.isWhole_whole _) voM (Memref.isWhole_whole _) cc0_scratch6 cc0_scratch7 cc0_scratch8 cc0_scratch9 cc0_scratch10) (fun _ => bodyPost m c) := by
  unfold bodyPre bodyPost Φ₀ Φ₁ start own1 scratch Dat.owesAt Pipeline.owesWithin
  simp only [before_x, before_w]
  rw [show (owns (c : Thread nD τ) (Memref.whole cc0_stg0_0) fullShare (scaleX m c) : sProp 𝕄) = _ from owns_whole (c : Thread nD τ) cc0_stg0_0 fullShare (scaleX m c),
    show (owns (c : Thread nD τ) (Memref.whole cc0_stg1_0) fullShare (scaleW m c) : sProp 𝕄) = _ from owns_whole (c : Thread nD τ) cc0_stg1_0 fullShare (scaleW m c)]
  rw [split_up c (fun p => junk c (bufS p))]
  iintro ⟨⟨⟨⟨%K, #HK⟩, ⟨Hat, Hc, Htk⟩, Hcr, Hr, HOm⟩, Hs, ⟨Hb, HJ⟩, HVo⟩, ⟨%W, %hW, HO⟩, ⟨%d0, Hx⟩, ⟨%d1, Hw⟩⟩
  ihave HS := (shakes_in (F := F) c) $$ [Hat Htk Hcr HJ]
  · isplitl [Hat Htk]
    · isplitl [Hat]; · iexact Hat
      iexact Htk
    isplitl [Hcr]; · iexact Hcr
    iexact HJ
  iapply (body_run m K c (sx := scaleX m c) (sw := scaleW m c)) $$ HK [HO] HS Hs Hr Hc HVo HOm [Hx Hw]
  · unfold debt; iexists W; iexact HO
  · unfold scales
    isplitl [Hx]; · iexact Hx
    iexact Hw
  iintro HO HSs Hs HJ Hr Hc HVo HOm Hsc
  rw [← split_up c (fun p => junk c (bufS p)), split_dn c (fun p => junk c (bufS p)), oR_end]
  unfold scales debt
  icases Hsc with ⟨Hx, Hw⟩
  icases HO with ⟨%W', HO⟩
  isplitl [HSs Hc Hr HOm Hs Hb HJ HVo]
  · isplitl [HSs Hc]
    · isplitl [HSs]; · iexact HSs
      iexact Hc
    isplitl [Hr HOm]
    · isplitl [Hr]; · iexact Hr
      iexact HOm
    isplitl [Hs]; · iexact Hs
    isplitl [Hb HJ]
    · isplitl [Hb]; · iexact Hb
      iexact HJ
    unfold junk
    iexists _; iexact HVo
  isplitl [HO]
  · iexists W'
    isplitr; · ipureintro; exact fun _ _ => Or.inl trivial
    iexact HO
  isplitl [Hx]; · iexact Hx
  iexact Hw

set_option maxRecDepth 16384 in
/-- The body meets its obligation. -/
theorem body_obligation (c : Dev nD) : BodyObligation (dats (F := F) m 0 c) (defs₀ (F := F)) 𝒱₀ () Set.univ := fun t => by
  rw [fin_N0 t]
  rw [bigSep_W0, bigSep_W0]
  exact sound_body m c

/-! ## The launch's side conditions -/

theorem share_eq (c : Dev nD) (w : Fin cfg0.W) : (dats (F := F) m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => oB d 0) c ∗ prngReg c (ρ c) ∗ G' m c)
      ⊢ |={Set.univ}=> iprop(start m c ∗ emp) := by
  rw [Pipeline.unscopedRestP_none, unscopedRest0_eq, x_rows, w_rows]
  unfold start G' rows known know
  iintro ⟨⟨Hx, Hw, Ho⟩, #Hlev, Hcr, -, ⟨%K, #HI, #HR⟩, Hown⟩
  ihave Hc := (creds (F := F) c) $$ Hcr
  imodintro
  isplitl
  · isplitr
    · iexists K
      isplitr; · iexact HI
      isplitr; · iexact HR
      iexact Hlev
    isplitl [Hown]; · iexact Hown
    isplitl [Hc]; · iexact Hc
    isplitl [Hx Hw]
    · isplitl [Hx]; · iexact Hx
      iexact Hw
    rw [junk_whole]
    iexists _; iexact Ho
  · iempintro

/-- The scratch buffers, whole, are the slots and the receive buffer's slots and the staged result. -/
theorem scratch_eq (c : Dev nD) :
    (Pipeline.scopedRest (Ix := Unit) (Name := ℕ) (U := UU) (Lvl := ℕ) (Val := Elt F) cfg0.spec c : sProp 𝕄)
      = iprop(junk c xfM ∗ junk c xqM ∗ junk c bufM ∗ junk c wfM ∗ junk c wqM ∗ junk c voM) := by
  rw [junk_whole, junk_whole, junk_whole, junk_whole, junk_whole, junk_whole]
  exact scopedRest0_eq c
theorem scratch_in (c : Dev nD) :
    (Pipeline.scopedRest (Ix := Unit) (Name := ℕ) (U := UU) (Lvl := ℕ) (Val := Elt F) cfg0.spec c : sProp 𝕄) ⊢ scratch c := by
  rw [scratch_eq, xf_slots, xq_slots, buf_slots, wf_slots, wq_slots]
  unfold scratch slots
  iintro ⟨Hxf, Hxq, Hb, Hwf, Hwq, Hvo⟩
  isplitl [Hxf Hxq Hwf Hwq]
  · isplitl [Hxq]; · iexact Hxq
    isplitl [Hwq]; · iexact Hwq
    isplitl [Hxf]; · iexact Hxf
    iexact Hwf
  isplitl [Hb]; · iexact Hb
  iexact Hvo
theorem scratch_out (c : Dev nD) :
    scratch c ⊢ (Pipeline.scopedRest (Ix := Unit) (Name := ℕ) (U := UU) (Lvl := ℕ) (Val := Elt F) cfg0.spec c : sProp 𝕄) := by
  rw [scratch_eq, xf_slots, xq_slots, buf_slots, wf_slots, wq_slots]
  unfold scratch slots
  iintro ⟨⟨Hxq, Hwq, Hxf, Hwf⟩, Hb, Hvo⟩
  isplitl [Hxf]; · iexact Hxf
  isplitl [Hxq]; · iexact Hxq
  isplitl [Hb]; · iexact Hb
  isplitl [Hwf]; · iexact Hwf
  isplitl [Hwq]; · iexact Hwq
  iexact Hvo

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl]
  unfold Φ₀
  iintro ⟨Hs, -, Hr⟩
  isplitl [Hs]; · iexact Hs
  iapply (scratch_in (F := F) c); iexact Hr

/-- What device `c` ends with: its free semaphore at zero, its operands as they were, its result. -/
def fin1 (c : Dev nD) : sProp 𝕄 :=
  iprop(unscopedSems0 c ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1 ↦{fullShare} outV m c (scaleX m c) (scaleW m c)))

theorem phi1_exit (c : Dev nD) :
    (dats (F := F) m 0 c).Φ (Fin.last cfg0.N) ⊢ iprop(fin1 m c ∗ Pipeline.ownSems0 osem c ∗ Pipeline.scopedRest cfg0.spec c) := by
  rw [show (dats (F := F) m 0 c).Φ (Fin.last cfg0.N) = Φ₁ m c from rfl]
  unfold Φ₁ fin1 rows
  rw [← x_rows, ← w_rows, owns_oM]
  iintro ⟨HS, ⟨⟨Hx, Hw⟩, Ho⟩, Hs⟩
  ihave HS := (sems_out (F := F) c) $$ HS
  icases HS with ⟨HU, HS⟩
  isplitl [HU Hx Hw Ho]
  · isplitl [HU]; · iexact HU
    isplitl [Hx]; · iexact Hx
    isplitl [Hw]; · iexact Hw
    iexact Ho
  isplitl [HS]; · iexact HS
  iapply (scratch_out (F := F) c); iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_own c _ (by fin_cases w <;> fin_cases s <;> decide) 0
    · show (levAts L lv : sProp 𝕄) ⊢ MayWait (c : Thread nD τ) _ () 0
      rw [MayWait_zero]; iintro -; iempintro

/-! ## The run -/

/-- Device `c`'s part of the final state: its operands as they were, its result, its free semaphore at zero. -/
def Ends (c : Dev nD) (s : MemSt nD τ sig (Elt F)) : Prop :=
  s.mem ((c : Thread nD τ).loc main_v1) = outV m c (scaleX m c) (scaleW m c)
    ∧ s.mem ((c : Thread nD τ).loc main_arg0) = m ((c : Thread nD τ).loc main_arg0)
    ∧ s.mem ((c : Thread nD τ).loc main_arg1) = m ((c : Thread nD τ).loc main_arg1)
    ∧ ∀ sm : SemLoc sig, sm.isScoped .tc = false → s.sem ((c.tc : Thread nD τ), sm) = 0

theorem fin_read (c : Dev nD) (s' : Phys nD τ sig (Elt F)) :
    iprop(fin1 m c ∗ emp ∗ SI s') ⊢ |={Set.univ}=> (iprop(⌜Ends m c s'.mem⌝ ∗ SI s') : sProp 𝕄) := by
  unfold fin1 Ends
  iintro ⟨⟨HU, Hx, Hw, Ho⟩, -, HSI⟩
  icombine HSI Hx gives %hx
  icombine HSI Hw gives %hw
  icombine HSI Ho gives %ho
  imod (Pipeline.unscopedSems0_read (X := unscopedSems0 c) (c := c) fupd_intro s') $$ [HU HSI] with ⟨%hU, HSI⟩
  · isplitl [HU] <;> iassumption
  imodintro
  isplitr
  · ipureintro
    exact ⟨Buf.eq_of_forall_mem_univ ho, Buf.eq_of_forall_mem_univ hx, Buf.eq_of_forall_mem_univ hw, hU⟩
  iexact HSI

set_option maxRecDepth 8000 in
/-- For any float values and any memory, with all semaphores at zero: every fair run of the program on the eight devices
    ends; each device's result is then `outV`, its four arguments are as they were, and every semaphore is at zero. -/
theorem run_main : θ_run defs (onTc (τ := τ) (main (F := F))) (s₀ m ρ) (fun r => (∀ c : Dev nD,
      r.2.mem ((c : Thread nD τ).loc main_v1) = outV m c (scaleX m c) (scaleW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => oB d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_shake m) $$ HX with HG
      imodintro
      isplitl [HP] <;> iassumption)
    (hglob := glob m)
    (hA := fun _ _ => rfl) (hpf := fun _ k => k.elim0)
    (X := start m) (Y := fin1 m) (Z := fun _ => iprop(emp))
    (hX := start_intro m ρ) (hin := phi0_intro m) (hout := phi1_exit m)
    (QY := Ends m) (hY := fin_read m)
    (hQ := fun _ h hs =>
      ⟨fun c => ⟨(h c).2.2.1, (h c).2.2.2.1, (h c).2.2.2.2.1,
          ((h c).1 0).trans ((dats (F := F) m 0 c).arrAt_in 0 rfl _), ((h c).1 1).trans ((dats (F := F) m 0 c).arrAt_in 1 rfl _)⟩,
        sem_eq_zero hs fun c => (h c).2.2.2.2.2⟩)

end Cert.Mesh

end
-- ==== Proof.Value.lean ====
/-
# The result against the reference, over the extended reals

The reference multiplies the whole matrices: entry (R, j) sums over all 4096 contracted positions. Device `c` sums eight
block products, its own and one for each of the seven other devices, each over 512 positions. The eight blocks of positions
are the 4096 positions, and a sum over the extended reals may be taken in any order, so device `c`'s result is its block of
rows of the reference's.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

noncomputable section

namespace Cert.Mesh

open Cert.KernelIdeal Cert.KernelIdeal.Gen Cert.Slot

open Idealize.ShloMosaic
open Idealize.ShloMosaic.TcCoe
open Idealize.ShloMosaic.ValueIdx
open scoped BigOperators

/-! ## Sums -/

/-- The eight devices, counted back from `c`: a sum over the devices is the term of `c` and the terms of the devices one to
    seven places before it. -/
theorem sum_devices {M : Type} [AddCommMonoid M] (c : Dev nD) (T : Dev nD → M) :
    T c + T (dn 0 c) + T (dn 1 c) + T (dn 2 c) + T (dn 3 c) + T (dn 4 c) + T (dn 5 c) + T (dn 6 c) = ∑ p : Fin 8, T p := by
  rw [← Equiv.sum_comp (Equiv.subLeft (c : Fin 8)) T, Fin.sum_univ_eight]
  have h : ∀ c : Fin 8, c - 0 = c ∧ c - 1 = dn 0 c ∧ c - 2 = dn 1 c ∧ c - 3 = dn 2 c ∧ c - 4 = dn 3 c ∧ c - 5 = dn 4 c
      ∧ c - 6 = dn 5 c ∧ c - 7 = dn 6 c := by decide
  obtain ⟨h0, h1, h2, h3, h4, h5, h6, h7⟩ := h c
  simp only [Equiv.subLeft_apply, h0, h1, h2, h3, h4, h5, h6, h7]

/-- Position `k` of block `p` among all the positions. -/
def pos (p : Fin 8) (k : Fin 512) : Fin 4096 := ⟨512 * p.val + k.val, by omega⟩

/-- A sum over 4096 positions, block by block. -/
theorem sum_blocks {M : Type} [AddCommMonoid M] (f : Fin 4096 → M) : ∑ k : Fin 4096, f k = ∑ p : Fin 8, ∑ k : Fin 512, f (pos p k) := by
  rw [← Fintype.sum_prod_type' (f := fun p k => f (pos p k)), ← Equiv.sum_comp (finProdFinEquiv (m := 8) (n := 512)) f]
  refine Finset.sum_congr rfl fun pk _ => congrArg f (Fin.ext ?_)
  show pk.2.val + 512 * pk.1.val = 512 * pk.1.val + pk.2.val
  omega

/-! ## The kernel's operations at an index -/

/-- A block product at an index. -/
theorem prod_apply (a : FVec Ideal S512x512 .fp8e5m2) (b : FVec Ideal S512x2048 .fp8e5m2) (i : Fin 512) (j : Fin 2048) :
    prod a b (ix2 i j) = ∑ k : Fin 512, a (ix2 i k) * b (ix2 k j) := by
  refine (Ideal.matmul_plain_apply (M := 512) (K := 512) (N := 2048) none a b _ i j).trans ?_
  rw [ValueIdx.constant_apply, Ideal.ofBits_zero_f32, zero_add]

variable (m : (ℓ : Loc nD τ sig) → Buf (Elt Ideal) ℓ) (c : Dev nD)

/-- Block `p` of device `d`'s `x` is its rows `512 p …`; -/
theorem xblk_apply (d p : Dev nD) (i k : Fin 512) :
    xblk m d p (ix2 i k) = (m ((d : Thread nD τ).loc main_arg0) : S4096x512.Idx → EReal) (ix2 (pos p i) k) := by
  show (m ((d : Thread nD τ).loc main_arg0) : S4096x512.Idx → EReal) _ = _
  refine congrArg _ (funext fun a => Fin.ext ?_)
  match a with
  | ⟨0, _⟩ => show 512 * p.val + 1 * i.val = 512 * p.val + i.val; omega
  | ⟨1, _⟩ => show 0 + 1 * k.val = k.val; omega
/-- and of its `w` likewise. -/
theorem wblk_apply (d p : Dev nD) (k : Fin 512) (j : Fin 2048) :
    wblk m d p (ix2 k j) = (m ((d : Thread nD τ).loc main_arg1) : S4096x2048.Idx → EReal) (ix2 (pos p k) j) := by
  show (m ((d : Thread nD τ).loc main_arg1) : S4096x2048.Idx → EReal) _ = _
  refine congrArg _ (funext fun a => Fin.ext ?_)
  match a with
  | ⟨0, _⟩ => show 512 * p.val + 1 * k.val = 512 * p.val + k.val; omega
  | ⟨1, _⟩ => show 0 + 1 * j.val = j.val; omega

/-- The index set of a one-element array has one index. -/
theorem one_index (i j : S1.Idx) : i = j :=
  funext fun a => Fin.ext (by
    have hi := (i a).isLt; have hj := (j a).isLt
    match a with
    | ⟨0, _⟩ => change (i 0).val < 1 at hi; change (j 0).val < 1 at hj; show (i 0).val = (j 0).val; omega)
/-- The scales are the third and fourth arguments. -/
theorem scaleX_apply (i : S1.Idx) : scaleX m c i = (m ((c : Thread nD τ).loc main_arg2) : S1.Idx → EReal) i := by
  show (m ((c : Thread nD τ).loc main_arg2) : S1.Idx → EReal) _ = _
  exact congrArg _ (one_index _ _)
theorem scaleW_apply (i : S1.Idx) : scaleW m c i = (m ((c : Thread nD τ).loc main_arg3) : S1.Idx → EReal) i := by
  show (m ((c : Thread nD τ).loc main_arg3) : S1.Idx → EReal) _ = _
  exact congrArg _ (one_index _ _)

/-! ## The two results -/

/-- The reference's result from its arguments. -/
abbrev refOut (X : FVec Ideal Cert.ReferenceIdeal.S4096x4096 .f32) (W : FVec Ideal Cert.ReferenceIdeal.S4096x2048 .f32)
    (sx sw : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none X W)
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf sx sw))))
    (broadcastInDim Cert.ReferenceIdeal.S4096x2048 ![] Cert.ReferenceIdeal.Facts₀.bcast_S_S4096x2048 (constant Cert.ReferenceIdeal.S_ .f32 0x00000000#32))

/-- The reference's result at an index: the sum over all the positions, scaled, and nothing below zero. -/
theorem refOut_apply (X : FVec Ideal Cert.ReferenceIdeal.S4096x4096 .f32) (W : FVec Ideal Cert.ReferenceIdeal.S4096x2048 .f32)
    (sx sw : FVec Ideal Cert.ReferenceIdeal.S1 .f32) (R : Fin 4096) (j : Fin 2048) :
    refOut X W sx sw (ix2 R j) = max ((∑ k : Fin 4096, X (ix2 R k) * W (ix2 k j)) * (sx one1 * sw one1)) 0 := by
  unfold refOut
  rw [ValueIdx.maximumf_apply, ValueIdx.mulf_apply]
  congr 1
  · congr 1
    · exact StackMember.dotGeneral_plain_apply (m := 4096) (k := 4096) (n := 2048) none X W R j
    · exact congrArg₂ (fun a b : EReal => a * b) (congrArg sx (one_index _ _)) (congrArg sw (one_index _ _))
  · exact Ideal.ofBits_zero_f32

/-- Device `c`'s result at an index: the sum of the eight block products, scaled, and nothing below zero. -/
theorem outV_apply (sx sw : S1.Idx → Elt Ideal .f32) (i : Fin 512) (j : Fin 2048) :
    outV m c sx sw (ix2 i j)
      = max ((∑ p : Fin 8, ∑ k : Fin 512, (xblk m p c (ix2 i k) : EReal) * wblk m c p (ix2 k j)) * ((sx one1 : EReal) * sw one1)) 0 := by
  have h : ∀ p : Dev nD, prod (qx (xblk m p c)) (qw (wblk m c p)) (ix2 i j)
      = ∑ k : Fin 512, (xblk m p c (ix2 i k) : EReal) * wblk m c p (ix2 k j) := fun p => prod_apply _ _ i j
  rw [← sum_devices c fun p => ∑ k : Fin 512, (xblk m p c (ix2 i k) : EReal) * wblk m c p (ix2 k j)]
  simp only [← h]
  unfold outV k0_pay31
  simp only [shapeCast_self]
  rw [ValueIdx.maximumf_apply]
  exact congrArg (max _) Ideal.ofBits_zero_f32

/-- Device `c`'s result is its block of rows of the reference's. -/
theorem outV_eq (X : FVec Ideal Cert.ReferenceIdeal.S4096x4096 .f32) (W : FVec Ideal Cert.ReferenceIdeal.S4096x2048 .f32)
    (sx sw : FVec Ideal Cert.ReferenceIdeal.S1 .f32)
    (hx : ∀ d : Dev nD, m ((d : Thread nD τ).loc main_arg0) = Layout.block ⟨2, ![4096, 512]⟩ ⟨2, ![4096, 4096]⟩ 1 8 d X)
    (hw : m ((c : Thread nD τ).loc main_arg1) = W) (h2 : m ((c : Thread nD τ).loc main_arg2) = sx) (h3 : m ((c : Thread nD τ).loc main_arg3) = sw) :
    outV m c (scaleX m c) (scaleW m c) = Layout.block ⟨2, ![512, 2048]⟩ ⟨2, ![4096, 2048]⟩ 0 8 c (refOut X W sx sw) := by
  funext ij
  obtain ⟨i, j, rfl⟩ : ∃ (i : Fin 512) (j : Fin 2048), ij = ix2 i j := ⟨ij 0, ij 1, eq_ix2 ij⟩
  have hij : (by decide : Layout.Tiles ⟨2, ![512, 2048]⟩ ⟨2, ![4096, 2048]⟩ 0 8).idx c (ix2 i j) = ix2 (pos c i) j :=
    funext fun a => Fin.ext (by
      match a with
      | ⟨0, _⟩ => show c.val * 512 + i.val = 512 * c.val + i.val; omega
      | ⟨1, _⟩ => rfl)
  rw [Layout.block_apply, hij, refOut_apply, outV_apply, sum_blocks, scaleX_apply, scaleW_apply, h2, h3]
  refine congrArg (fun s : EReal => max (s * _) 0) (Finset.sum_congr rfl fun p _ => Finset.sum_congr rfl fun k _ => ?_)
  rw [xblk_apply, wblk_apply, hx, hw]
  refine congrArg (fun e => X e * _) (funext fun a => Fin.ext ?_)
  match a with
  | ⟨0, _⟩ => rfl
  | ⟨1, _⟩ => show p.val * 512 + k.val = 512 * p.val + k.val; omega

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two printings of the kernel have the same bodies; -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl
/-- and so the same body tables. -/
theorem tables_eq {F : FTy → Type} [FloatOps F] : Cert.Kernel.defs (F := F) = Cert.KernelIdeal.defs (F := F) :=
  congrArg (Pipeline.defs Cert.Kernel.pcfgs) bodies_eq

/-- The kernel at bit patterns ends, with its arguments as they were and every semaphore at zero. -/
theorem frame_kernel : Cert.quiescent_Kernel := fun m g _ => by
  rw [tables_eq]
  exact (θ_run Cert.KernelIdeal.defs _ _).mono (fun _ h => ⟨fun c => (h.1 c).2, h.2⟩) (Cert.Mesh.run_main (F := Bits) m g)

/-- The kernel over the extended reals likewise. -/
theorem frame_ideal : Cert.quiescent_KernelIdeal := fun m g _ =>
  (θ_run Cert.KernelIdeal.defs _ _).mono (fun _ h => ⟨fun c => (h.1 c).2, h.2⟩) (Cert.Mesh.run_main (F := Ideal) m g)

/-- The reference likewise: it has no semaphore. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Over the extended reals each device ends with its block of rows of what the reference ends with. -/
theorem value : Cert.algebraic_KernelIdeal_ReferenceIdeal := fun m g m' g' _ hm =>
  ⟨_, (θ_run Cert.KernelIdeal.defs _ _).mono
      (fun _ h c => ⟨(h.1 c).1.trans (Cert.Mesh.outV_eq m c _ _ _ _ (fun d => (hm d).1) (hm c).2.1 (hm c).2.2.1 (hm c).2.2.2), (h.1 c).2⟩)
      (Cert.Mesh.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
